-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S64x2x512 Cert.KernelIdeal.S64x1x512
  ∧ IdealRules.bf16_pair.PackStatement Cert.KernelIdeal.S16x128
  ∧ IdealRules.bf16_pair.Statement Cert.KernelIdeal.S16x2x128 Cert.KernelIdeal.S16x1x128
  ∧ IdealRules.bf16_pair.Statement Cert.KernelIdeal.S1x2x128 Cert.KernelIdeal.S1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x10240 : Shape := ⟨3, ![256, 1, 10240]⟩
abbrev S7168x40x128 : Shape := ⟨3, ![7168, 40, 128]⟩
abbrev S7168x40x64 : Shape := ⟨3, ![7168, 40, 64]⟩
abbrev S7168x40x16 : Shape := ⟨3, ![7168, 40, 16]⟩
abbrev S7168x40 : Shape := ⟨2, ![7168, 40]⟩
abbrev S256x10240 : Shape := ⟨2, ![256, 10240]⟩
abbrev S40x64x7168 : Shape := ⟨3, ![40, 64, 7168]⟩
abbrev S40x16x7168 : Shape := ⟨3, ![40, 16, 7168]⟩
abbrev S40x7168 : Shape := ⟨2, ![40, 7168]⟩
abbrev S286720x128 : Shape := ⟨2, ![286720, 128]⟩
abbrev S256x7168 : Shape := ⟨2, ![256, 7168]⟩
abbrev S40x64x512 : Shape := ⟨3, ![40, 64, 512]⟩
abbrev S40x16x512 : Shape := ⟨3, ![40, 16, 512]⟩
abbrev S40x512 : Shape := ⟨2, ![40, 512]⟩
abbrev S256x512 : Shape := ⟨2, ![256, 512]⟩
abbrev S20480x128 : Shape := ⟨2, ![20480, 128]⟩
abbrev S5120x128 : Shape := ⟨2, ![5120, 128]⟩
abbrev S128x128 : Shape := ⟨2, ![128, 128]⟩
abbrev S4x40x128 : Shape := ⟨3, ![4, 40, 128]⟩
abbrev S64x512 : Shape := ⟨2, ![64, 512]⟩
abbrev S4x1024x128 : Shape := ⟨3, ![4, 1024, 128]⟩
abbrev S_ : Shape := ⟨0, ![]⟩
abbrev S40x128 : Shape := ⟨2, ![40, 128]⟩
abbrev S1x40x128 : Shape := ⟨3, ![1, 40, 128]⟩
abbrev S1x1x128 : Shape := ⟨3, ![1, 1, 128]⟩
abbrev S1x128 : Shape := ⟨2, ![1, 128]⟩
abbrev S1x16x128 : Shape := ⟨3, ![1, 16, 128]⟩
abbrev S16x128 : Shape := ⟨2, ![16, 128]⟩
abbrev S8x128 : Shape := ⟨2, ![8, 128]⟩
abbrev S1x32x128 : Shape := ⟨3, ![1, 32, 128]⟩
abbrev S32x128 : Shape := ⟨2, ![32, 128]⟩
abbrev S1x1024x128 : Shape := ⟨3, ![1, 1024, 128]⟩
abbrev S1024x128 : Shape := ⟨2, ![1024, 128]⟩
abbrev S1024x256 : Shape := ⟨2, ![1024, 256]⟩
abbrev S256x256 : Shape := ⟨2, ![256, 256]⟩
abbrev S256x1024 : Shape := ⟨2, ![256, 1024]⟩
abbrev S256x1x7168 : Shape := ⟨3, ![256, 1, 7168]⟩

abbrev nBuf : Space → Nat
  | .hbm => 12
  | .vmem => 16
  | .smem => 0
  | _ => 0

abbrev bufTy : (tb : Table) → Fin (tcTables nBuf tb) → BufTy
  | .hbm, ⟨0, _⟩ => ⟨S256x1x10240, .bf16⟩
  | .hbm, ⟨1, _⟩ => ⟨S7168x40x128, .i8⟩
  | .hbm, ⟨2, _⟩ => ⟨S7168x40x64, .i8⟩
  | .hbm, ⟨3, _⟩ => ⟨S7168x40x16, .i8⟩
  | .hbm, ⟨4, _⟩ => ⟨S7168x40, .i16⟩
  | .hbm, ⟨5, _⟩ => ⟨S256x10240, .bf16⟩
  | .hbm, ⟨6, _⟩ => ⟨S40x64x7168, .i8⟩
  | .hbm, ⟨7, _⟩ => ⟨S40x16x7168, .i8⟩
  | .hbm, ⟨8, _⟩ => ⟨S40x7168, .i16⟩
  | .hbm, ⟨9, _⟩ => ⟨S286720x128, .i8⟩
  | .hbm, ⟨10, _⟩ => ⟨S256x7168, .bf16⟩
  | .hbm, ⟨11, _⟩ => ⟨S256x1x7168, .bf16⟩
  | .local _ .vmem, ⟨0, _⟩ => ⟨S256x10240, .bf16⟩
  | .local _ .vmem, ⟨1, _⟩ => ⟨S40x64x512, .i8⟩
  | .local _ .vmem, ⟨2, _⟩ => ⟨S40x64x512, .i8⟩
  | .local _ .vmem, ⟨3, _⟩ => ⟨S40x16x512, .i8⟩
  | .local _ .vmem, ⟨4, _⟩ => ⟨S40x16x512, .i8⟩
  | .local _ .vmem, ⟨5, _⟩ => ⟨S40x512, .i16⟩
  | .local _ .vmem, ⟨6, _⟩ => ⟨S40x512, .i16⟩
  | .local _ .vmem, ⟨7, _⟩ => ⟨S256x512, .bf16⟩
  | .local _ .vmem, ⟨8, _⟩ => ⟨S256x512, .bf16⟩
  | .local _ .vmem, ⟨9, _⟩ => ⟨S20480x128, .i8⟩
  | .local _ .vmem, ⟨10, _⟩ => ⟨S5120x128, .i32⟩
  | .local _ .vmem, ⟨11, _⟩ => ⟨S128x128, .i32⟩
  | .local _ .vmem, ⟨12, _⟩ => ⟨S4x40x128, .f32⟩
  | .local _ .vmem, ⟨13, _⟩ => ⟨S64x512, .i32⟩
  | .local _ .vmem, ⟨14, _⟩ => ⟨S4x1024x128, .bf16⟩
  | .local _ .vmem, ⟨15, _⟩ => ⟨S256x512, .f32⟩
  | _, _ => ⟨S256x1x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![14], ![false]⟩

def k0_mult1 (i : grid0.Coords) : BitVec 32 :=
  let arg0 : BitVec 32 := BitVec.ofNat 32 (i 0).val
  let c20480_i32 : BitVec 32 := 20480#32
  let v0 : BitVec 32 := Scalar.muli arg0 c20480_i32
  v0
def k0_off1 (i : grid0.Coords) : Fin 2 → Nat :=
  let arg0 : BitVec 32 := BitVec.ofNat 32 (i 0).val
  let c20480_i32 : BitVec 32 := 20480#32
  let v0 : BitVec 32 := Scalar.muli arg0 c20480_i32
  let v1 : BitVec 32 := v0
  let c0_i32_83_r0 : BitVec 32 := 0#32
  ![v1.toNat, 0]
@[reducible] def k0_t1_loop : Scf.Loop 32 :=
  let c0_i32_76 : BitVec 32 := 0#32
  let c10_i32_77 : BitVec 32 := 10#32
  let v207 : BitVec 32 := Scalar.addi c0_i32_76 c10_i32_77
  let c1_i32 : BitVec 32 := 1#32
  ⟨c0_i32_76, v207, c1_i32⟩
def k0_off2 (k0_t1 : Fin k0_t1_loop.trips) (c0_i32_83 : BitVec 32) : Fin 3 → Nat :=
  let c0_84 : Index := 0#32
  let c0_i32_76 : BitVec 32 := 0#32
  let c1_i32 : BitVec 32 := 1#32
  let arg14 : BitVec 32 := Scf.iv c0_i32_76 c1_i32 k0_t1
  let c4_i32 : BitVec 32 := 4#32
  let v211 : BitVec 32 := Scalar.muli arg14 c4_i32
  let v212 : BitVec 32 := Scalar.addi v211 c0_i32_83
  let v213 : Index := Scalar.indexCast v212
  let c0_85 : Index := 0#32
  ![0, v213.toNat, 0]
def k0_off3 (k0_t1 : Fin k0_t1_loop.trips) (c0_i32_83 : BitVec 32) : Fin 3 → Nat :=
  let c0_i32_76 : BitVec 32 := 0#32
  let c1_i32 : BitVec 32 := 1#32
  let arg14 : BitVec 32 := Scf.iv c0_i32_76 c1_i32 k0_t1
  let c4_i32 : BitVec 32 := 4#32
  let v211 : BitVec 32 := Scalar.muli arg14 c4_i32
  let v212 : BitVec 32 := Scalar.addi v211 c0_i32_83
  let v216 : Index := Scalar.indexCast v212
  let c0_86 : Index := 0#32
  let c0_87 : Index := 0#32
  ![v216.toNat, 0, 0]
def k0_off4 (k0_t1 : Fin k0_t1_loop.trips) (c0_i32_109 : BitVec 32) : Fin 2 → Nat :=
  let c0_i32_76 : BitVec 32 := 0#32
  let c1_i32 : BitVec 32 := 1#32
  let arg14 : BitVec 32 := Scf.iv c0_i32_76 c1_i32 k0_t1
  let v275 : BitVec 32 := Scalar.addi c0_i32_109 arg14
  let v276 : Index := Scalar.indexCast v275
  let c0_110 : Index := 0#32
  ![v276.toNat, 0]
def k0_off5 (k0_t1 : Fin k0_t1_loop.trips) (c0_i32_138 : BitVec 32) : Fin 3 → Nat :=
  let c0_i32_76 : BitVec 32 := 0#32
  let c1_i32 : BitVec 32 := 1#32
  let arg14 : BitVec 32 := Scf.iv c0_i32_76 c1_i32 k0_t1
  let c4_i32_137 : BitVec 32 := 4#32
  let v334 : BitVec 32 := Scalar.muli arg14 c4_i32_137
  let v335 : BitVec 32 := Scalar.addi v334 c0_i32_138
  let v336 : Index := Scalar.indexCast v335
  let c0_139 : Index := 0#32
  let c0_140 : Index := 0#32
  ![v336.toNat, 0, 0]
def k0_off6 (k0_t1 : Fin k0_t1_loop.trips) (c0_i32_270 : BitVec 32) : Fin 3 → Nat :=
  let c0_i32_76 : BitVec 32 := 0#32
  let c1_i32 : BitVec 32 := 1#32
  let arg14 : BitVec 32 := Scf.iv c0_i32_76 c1_i32 k0_t1
  let c4_i32_269 : BitVec 32 := 4#32
  let v634 : BitVec 32 := Scalar.muli arg14 c4_i32_269
  let v635 : BitVec 32 := Scalar.addi v634 c0_i32_270
  let v636 : Index := Scalar.indexCast v635
  let c32_271 : Index := 32#32
  let c0_272 : Index := 0#32
  ![v636.toNat, 32, 0]
def k0_off7 (k0_t1 : Fin k0_t1_loop.trips) (c0_i32_626 : BitVec 32) : Fin 3 → Nat :=
  let c1_627 : Index := 1#32
  let c0_i32_76 : BitVec 32 := 0#32
  let c1_i32 : BitVec 32 := 1#32
  let arg14 : BitVec 32 := Scf.iv c0_i32_76 c1_i32 k0_t1
  let c4_i32_625 : BitVec 32 := 4#32
  let v1482 : BitVec 32 := Scalar.muli arg14 c4_i32_625
  let v1483 : BitVec 32 := Scalar.addi v1482 c0_i32_626
  let v1484 : Index := Scalar.indexCast v1483
  let c0_628 : Index := 0#32
  ![1, v1484.toNat, 0]
def k0_off8 (k0_t1 : Fin k0_t1_loop.trips) (c0_i32_626 : BitVec 32) : Fin 3 → Nat :=
  let c0_i32_76 : BitVec 32 := 0#32
  let c1_i32 : BitVec 32 := 1#32
  let arg14 : BitVec 32 := Scf.iv c0_i32_76 c1_i32 k0_t1
  let c4_i32_625 : BitVec 32 := 4#32
  let v1482 : BitVec 32 := Scalar.muli arg14 c4_i32_625
  let v1483 : BitVec 32 := Scalar.addi v1482 c0_i32_626
  let v1487 : Index := Scalar.indexCast v1483
  let c0_629 : Index := 0#32
  let c128_630 : Index := 128#32
  ![v1487.toNat, 0, 128]
def k0_off9 (k0_t1 : Fin k0_t1_loop.trips) (c0_i32_689 : BitVec 32) : Fin 3 → Nat :=
  let c0_i32_76 : BitVec 32 := 0#32
  let c1_i32 : BitVec 32 := 1#32
  let arg14 : BitVec 32 := Scf.iv c0_i32_76 c1_i32 k0_t1
  let c4_i32_688 : BitVec 32 := 4#32
  let v1605 : BitVec 32 := Scalar.muli arg14 c4_i32_688
  let v1606 : BitVec 32 := Scalar.addi v1605 c0_i32_689
  let v1607 : Index := Scalar.indexCast v1606
  let c0_690 : Index := 0#32
  let c128_691 : Index := 128#32
  ![v1607.toNat, 0, 128]
def k0_off10 (k0_t1 : Fin k0_t1_loop.trips) (c0_i32_849 : BitVec 32) : Fin 3 → Nat :=
  let c0_i32_76 : BitVec 32 := 0#32
  let c1_i32 : BitVec 32 := 1#32
  let arg14 : BitVec 32 := Scf.iv c0_i32_76 c1_i32 k0_t1
  let c4_i32_848 : BitVec 32 := 4#32
  let v1905 : BitVec 32 := Scalar.muli arg14 c4_i32_848
  let v1906 : BitVec 32 := Scalar.addi v1905 c0_i32_849
  let v1907 : Index := Scalar.indexCast v1906
  let c32_850 : Index := 32#32
  let c128_851 : Index := 128#32
  ![v1907.toNat, 32, 128]
def k0_off11 (k0_t1 : Fin k0_t1_loop.trips) (c0_i32_1301 : BitVec 32) : Fin 3 → Nat :=
  let c2_1302 : Index := 2#32
  let c0_i32_76 : BitVec 32 := 0#32
  let c1_i32 : BitVec 32 := 1#32
  let arg14 : BitVec 32 := Scf.iv c0_i32_76 c1_i32 k0_t1
  let c4_i32_1300 : BitVec 32 := 4#32
  let v2753 : BitVec 32 := Scalar.muli arg14 c4_i32_1300
  let v2754 : BitVec 32 := Scalar.addi v2753 c0_i32_1301
  let v2755 : Index := Scalar.indexCast v2754
  let c0_1303 : Index := 0#32
  ![2, v2755.toNat, 0]
def k0_off12 (k0_t1 : Fin k0_t1_loop.trips) (c0_i32_1301 : BitVec 32) : Fin 3 → Nat :=
  let c0_i32_76 : BitVec 32 := 0#32
  let c1_i32 : BitVec 32 := 1#32
  let arg14 : BitVec 32 := Scf.iv c0_i32_76 c1_i32 k0_t1
  let c4_i32_1300 : BitVec 32 := 4#32
  let v2753 : BitVec 32 := Scalar.muli arg14 c4_i32_1300
  let v2754 : BitVec 32 := Scalar.addi v2753 c0_i32_1301
  let v2758 : Index := Scalar.indexCast v2754
  let c0_1304 : Index := 0#32
  let c256_1305 : Index := 256#32
  ![v2758.toNat, 0, 256]
def k0_off13 (k0_t1 : Fin k0_t1_loop.trips) (c0_i32_1364 : BitVec 32) : Fin 3 → Nat :=
  let c0_i32_76 : BitVec 32 := 0#32
  let c1_i32 : BitVec 32 := 1#32
  let arg14 : BitVec 32 := Scf.iv c0_i32_76 c1_i32 k0_t1
  let c4_i32_1363 : BitVec 32 := 4#32
  let v2876 : BitVec 32 := Scalar.muli arg14 c4_i32_1363
  let v2877 : BitVec 32 := Scalar.addi v2876 c0_i32_1364
  let v2878 : Index := Scalar.indexCast v2877
  let c0_1365 : Index := 0#32
  let c256_1366 : Index := 256#32
  ![v2878.toNat, 0, 256]
def k0_off14 (k0_t1 : Fin k0_t1_loop.trips) (c0_i32_1524 : BitVec 32) : Fin 3 → Nat :=
  let c0_i32_76 : BitVec 32 := 0#32
  let c1_i32 : BitVec 32 := 1#32
  let arg14 : BitVec 32 := Scf.iv c0_i32_76 c1_i32 k0_t1
  let c4_i32_1523 : BitVec 32 := 4#32
  let v3176 : BitVec 32 := Scalar.muli arg14 c4_i32_1523
  let v3177 : BitVec 32 := Scalar.addi v3176 c0_i32_1524
  let v3178 : Index := Scalar.indexCast v3177
  let c32_1525 : Index := 32#32
  let c256_1526 : Index := 256#32
  ![v3178.toNat, 32, 256]
def k0_off15 (k0_t1 : Fin k0_t1_loop.trips) (c0_i32_1976 : BitVec 32) : Fin 3 → Nat :=
  let c3_1977 : Index := 3#32
  let c0_i32_76 : BitVec 32 := 0#32
  let c1_i32 : BitVec 32 := 1#32
  let arg14 : BitVec 32 := Scf.iv c0_i32_76 c1_i32 k0_t1
  let c4_i32_1975 : BitVec 32 := 4#32
  let v4024 : BitVec 32 := Scalar.muli arg14 c4_i32_1975
  let v4025 : BitVec 32 := Scalar.addi v4024 c0_i32_1976
  let v4026 : Index := Scalar.indexCast v4025
  let c0_1978 : Index := 0#32
  ![3, v4026.toNat, 0]
def k0_off16 (k0_t1 : Fin k0_t1_loop.trips) (c0_i32_1976 : BitVec 32) : Fin 3 → Nat :=
  let c0_i32_76 : BitVec 32 := 0#32
  let c1_i32 : BitVec 32 := 1#32
  let arg14 : BitVec 32 := Scf.iv c0_i32_76 c1_i32 k0_t1
  let c4_i32_1975 : BitVec 32 := 4#32
  let v4024 : BitVec 32 := Scalar.muli arg14 c4_i32_1975
  let v4025 : BitVec 32 := Scalar.addi v4024 c0_i32_1976
  let v4029 : Index := Scalar.indexCast v4025
  let c0_1979 : Index := 0#32
  let c384_1980 : Index := 384#32
  ![v4029.toNat, 0, 384]
def k0_off17 (k0_t1 : Fin k0_t1_loop.trips) (c0_i32_2039 : BitVec 32) : Fin 3 → Nat :=
  let c0_i32_76 : BitVec 32 := 0#32
  let c1_i32 : BitVec 32 := 1#32
  let arg14 : BitVec 32 := Scf.iv c0_i32_76 c1_i32 k0_t1
  let c4_i32_2038 : BitVec 32 := 4#32
  let v4147 : BitVec 32 := Scalar.muli arg14 c4_i32_2038
  let v4148 : BitVec 32 := Scalar.addi v4147 c0_i32_2039
  let v4149 : Index := Scalar.indexCast v4148
  let c0_2040 : Index := 0#32
  let c384_2041 : Index := 384#32
  ![v4149.toNat, 0, 384]
def k0_off18 (k0_t1 : Fin k0_t1_loop.trips) (c0_i32_2199 : BitVec 32) : Fin 3 → Nat :=
  let c0_i32_76 : BitVec 32 := 0#32
  let c1_i32 : BitVec 32 := 1#32
  let arg14 : BitVec 32 := Scf.iv c0_i32_76 c1_i32 k0_t1
  let c4_i32_2198 : BitVec 32 := 4#32
  let v4447 : BitVec 32 := Scalar.muli arg14 c4_i32_2198
  let v4448 : BitVec 32 := Scalar.addi v4447 c0_i32_2199
  let v4449 : Index := Scalar.indexCast v4448
  let c32_2200 : Index := 32#32
  let c384_2201 : Index := 384#32
  ![v4449.toNat, 32, 384]
def k0_mult2 (k0_t1 : Fin k0_t1_loop.trips) : BitVec 32 :=
  let c0_i32_76 : BitVec 32 := 0#32
  let c1_i32 : BitVec 32 := 1#32
  let arg14 : BitVec 32 := Scf.iv c0_i32_76 c1_i32 k0_t1
  let c1024_i32 : BitVec 32 := 1024#32
  let v5301 : BitVec 32 := Scalar.muli arg14 c1024_i32
  v5301
def k0_off19 (k0_t1 : Fin k0_t1_loop.trips) : Fin 2 → Nat :=
  let c0_2658 : Index := 0#32
  let c0_i32_76 : BitVec 32 := 0#32
  let c1_i32 : BitVec 32 := 1#32
  let arg14 : BitVec 32 := Scf.iv c0_i32_76 c1_i32 k0_t1
  let c1024_i32 : BitVec 32 := 1024#32
  let v5301 : BitVec 32 := Scalar.muli arg14 c1024_i32
  let v5302 : BitVec 32 := v5301
  let v5303 : Index := Scalar.indexCast v5302
  ![0, v5303.toNat]
def k0_mult3 (k0_t1 : Fin k0_t1_loop.trips) : BitVec 32 :=
  let c0_i32_76 : BitVec 32 := 0#32
  let c1_i32 : BitVec 32 := 1#32
  let arg14 : BitVec 32 := Scf.iv c0_i32_76 c1_i32 k0_t1
  let c1024_i32_2670 : BitVec 32 := 1024#32
  let v5317 : BitVec 32 := Scalar.muli arg14 c1024_i32_2670
  v5317
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S40x64x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x16x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S64x2x512 : Shape := ⟨3, ![64, 2, 512]⟩
abbrev S64x1x512 : Shape := ⟨3, ![64, 1, 512]⟩
abbrev S16x2x128 : Shape := ⟨3, ![16, 2, 128]⟩
abbrev S16x1x128 : Shape := ⟨3, ![16, 1, 128]⟩
abbrev S1x2x128 : Shape := ⟨3, ![1, 2, 128]⟩
  | .local _ .vmem, ⟨13, _⟩ => ⟨S64x2x512, .bf16⟩
variable {F : FTy → Type} [FloatOps F]
-- ==== ReferenceIdeal.lean ====
abbrev S256x1x10240 : Shape := ⟨3, ![256, 1, 10240]⟩
abbrev S7168x40x128 : Shape := ⟨3, ![7168, 40, 128]⟩
abbrev S7168x40x64 : Shape := ⟨3, ![7168, 40, 64]⟩
abbrev S7168x40x16 : Shape := ⟨3, ![7168, 40, 16]⟩
abbrev S7168x40 : Shape := ⟨2, ![7168, 40]⟩
abbrev S256x1x40x4x64 : Shape := ⟨5, ![256, 1, 40, 4, 64]⟩
abbrev S7168x40x1 : Shape := ⟨3, ![7168, 40, 1]⟩
abbrev S7168x40x4x4x1 : Shape := ⟨5, ![7168, 40, 4, 4, 1]⟩
abbrev S_ : Shape := ⟨0, ![]⟩
abbrev S7168x40x4x16 : Shape := ⟨4, ![7168, 40, 4, 16]⟩
abbrev S7168x40x1x4x1 : Shape := ⟨5, ![7168, 40, 1, 4, 1]⟩
abbrev S7168x40x4x1 : Shape := ⟨4, ![7168, 40, 4, 1]⟩
abbrev S256x1x40x1x64 : Shape := ⟨5, ![256, 1, 40, 1, 64]⟩
abbrev S256x1x40x64 : Shape := ⟨4, ![256, 1, 40, 64]⟩
abbrev S256x1x7168 : Shape := ⟨3, ![256, 1, 7168]⟩

abbrev nBuf : Space → Nat
  | .hbm => 128
  | .vmem => 2
  | .smem => 0
  | _ => 0

abbrev bufTy : (tb : Table) → Fin (tcTables nBuf tb) → BufTy
  | .hbm, ⟨0, _⟩ => ⟨S256x1x10240, .bf16⟩
  | .hbm, ⟨1, _⟩ => ⟨S7168x40x128, .i8⟩
  | .hbm, ⟨2, _⟩ => ⟨S7168x40x64, .i8⟩
  | .hbm, ⟨3, _⟩ => ⟨S7168x40x16, .i8⟩
  | .hbm, ⟨4, _⟩ => ⟨S7168x40, .i16⟩
  | .hbm, ⟨5, _⟩ => ⟨S256x1x40x4x64, .bf16⟩
  | .hbm, ⟨6, _⟩ => ⟨S7168x40, .f32⟩
  | .hbm, ⟨7, _⟩ => ⟨S7168x40x1, .f32⟩
  | .hbm, ⟨8, _⟩ => ⟨S7168x40x16, .i32⟩
  | .hbm, ⟨9, _⟩ => ⟨S7168x40x16, .f32⟩
  | .hbm, ⟨10, _⟩ => ⟨S7168x40x16, .f32⟩
  | .hbm, ⟨11, _⟩ => ⟨S7168x40x16, .f32⟩
  | .hbm, ⟨12, _⟩ => ⟨S7168x40x16, .bf16⟩
  | .hbm, ⟨13, _⟩ => ⟨S7168x40x4x4x1, .bf16⟩
  | .hbm, ⟨14, _⟩ => ⟨S7168x40x128, .i32⟩
  | .hbm, ⟨15, _⟩ => ⟨S7168x40x64, .i32⟩
  | .hbm, ⟨16, _⟩ => ⟨S_, .i32⟩
  | .hbm, ⟨17, _⟩ => ⟨S7168x40x128, .i32⟩
  | .hbm, ⟨18, _⟩ => ⟨S7168x40x128, .i32⟩
  | .hbm, ⟨19, _⟩ => ⟨S_, .i32⟩
  | .hbm, ⟨20, _⟩ => ⟨S7168x40x128, .i32⟩
  | .hbm, ⟨21, _⟩ => ⟨S7168x40x128, .i32⟩
  | .hbm, ⟨22, _⟩ => ⟨S7168x40x64, .i32⟩
  | .hbm, ⟨23, _⟩ => ⟨S_, .i32⟩
  | .hbm, ⟨24, _⟩ => ⟨S7168x40x64, .i32⟩
  | .hbm, ⟨25, _⟩ => ⟨S7168x40x64, .i32⟩
  | .hbm, ⟨26, _⟩ => ⟨S_, .i32⟩
  | .hbm, ⟨27, _⟩ => ⟨S7168x40x64, .i32⟩
  | .hbm, ⟨28, _⟩ => ⟨S7168x40x64, .i32⟩
  | .hbm, ⟨29, _⟩ => ⟨S_, .i32⟩
  | .hbm, ⟨30, _⟩ => ⟨S7168x40x64, .i32⟩
  | .hbm, ⟨31, _⟩ => ⟨S7168x40x64, .i32⟩
  | .hbm, ⟨32, _⟩ => ⟨S7168x40x64, .i32⟩
  | .hbm, ⟨33, _⟩ => ⟨S7168x40x64, .bf16⟩
  | .hbm, ⟨34, _⟩ => ⟨S_, .bf16⟩
  | .hbm, ⟨35, _⟩ => ⟨S7168x40x64, .bf16⟩
  | .hbm, ⟨36, _⟩ => ⟨S7168x40x64, .bf16⟩
  | .hbm, ⟨37, _⟩ => ⟨S7168x40x4x16, .bf16⟩
  | .hbm, ⟨38, _⟩ => ⟨S7168x40x1x4x1, .bf16⟩
  | .hbm, ⟨39, _⟩ => ⟨S7168x40x4x1, .bf16⟩
  | .hbm, ⟨40, _⟩ => ⟨S7168x40x4x16, .bf16⟩
  | .hbm, ⟨41, _⟩ => ⟨S7168x40x4x16, .bf16⟩
  | .hbm, ⟨42, _⟩ => ⟨S7168x40x64, .bf16⟩
  | .hbm, ⟨43, _⟩ => ⟨S256x1x40x1x64, .bf16⟩
  | .hbm, ⟨44, _⟩ => ⟨S256x1x40x64, .bf16⟩
  | .hbm, ⟨45, _⟩ => ⟨S256x1x7168, .f32⟩
  | .hbm, ⟨46, _⟩ => ⟨S7168x40x64, .i32⟩
  | .hbm, ⟨47, _⟩ => ⟨S_, .i32⟩
  | .hbm, ⟨48, _⟩ => ⟨S7168x40x64, .i32⟩
  | .hbm, ⟨49, _⟩ => ⟨S7168x40x64, .i32⟩
  | .hbm, ⟨50, _⟩ => ⟨S_, .i32⟩
  | .hbm, ⟨51, _⟩ => ⟨S7168x40x64, .i32⟩
  | .hbm, ⟨52, _⟩ => ⟨S7168x40x64, .i32⟩
  | .hbm, ⟨53, _⟩ => ⟨S_, .i32⟩
  | .hbm, ⟨54, _⟩ => ⟨S7168x40x64, .i32⟩
  | .hbm, ⟨55, _⟩ => ⟨S7168x40x64, .i32⟩
  | .hbm, ⟨56, _⟩ => ⟨S7168x40x64, .i32⟩
  | .hbm, ⟨57, _⟩ => ⟨S7168x40x64, .bf16⟩
  | .hbm, ⟨58, _⟩ => ⟨S_, .bf16⟩
  | .hbm, ⟨59, _⟩ => ⟨S7168x40x64, .bf16⟩
  | .hbm, ⟨60, _⟩ => ⟨S7168x40x64, .bf16⟩
  | .hbm, ⟨61, _⟩ => ⟨S7168x40x4x16, .bf16⟩
  | .hbm, ⟨62, _⟩ => ⟨S7168x40x1x4x1, .bf16⟩
  | .hbm, ⟨63, _⟩ => ⟨S7168x40x4x1, .bf16⟩
  | .hbm, ⟨64, _⟩ => ⟨S7168x40x4x16, .bf16⟩
  | .hbm, ⟨65, _⟩ => ⟨S7168x40x4x16, .bf16⟩
  | .hbm, ⟨66, _⟩ => ⟨S7168x40x64, .bf16⟩
  | .hbm, ⟨67, _⟩ => ⟨S256x1x40x1x64, .bf16⟩
  | .hbm, ⟨68, _⟩ => ⟨S256x1x40x64, .bf16⟩
  | .hbm, ⟨69, _⟩ => ⟨S256x1x7168, .f32⟩
  | .hbm, ⟨70, _⟩ => ⟨S256x1x7168, .f32⟩
  | .hbm, ⟨71, _⟩ => ⟨S_, .i32⟩
  | .hbm, ⟨72, _⟩ => ⟨S7168x40x128, .i32⟩
  | .hbm, ⟨73, _⟩ => ⟨S7168x40x128, .i32⟩
  | .hbm, ⟨74, _⟩ => ⟨S_, .i32⟩
  | .hbm, ⟨75, _⟩ => ⟨S7168x40x128, .i32⟩
  | .hbm, ⟨76, _⟩ => ⟨S7168x40x128, .i32⟩
  | .hbm, ⟨77, _⟩ => ⟨S7168x40x64, .i32⟩
  | .hbm, ⟨78, _⟩ => ⟨S_, .i32⟩
  | .hbm, ⟨79, _⟩ => ⟨S7168x40x64, .i32⟩
  | .hbm, ⟨80, _⟩ => ⟨S7168x40x64, .i32⟩
  | .hbm, ⟨81, _⟩ => ⟨S_, .i32⟩
  | .hbm, ⟨82, _⟩ => ⟨S7168x40x64, .i32⟩
  | .hbm, ⟨83, _⟩ => ⟨S7168x40x64, .i32⟩
  | .hbm, ⟨84, _⟩ => ⟨S_, .i32⟩
  | .hbm, ⟨85, _⟩ => ⟨S7168x40x64, .i32⟩
  | .hbm, ⟨86, _⟩ => ⟨S7168x40x64, .i32⟩
  | .hbm, ⟨87, _⟩ => ⟨S7168x40x64, .i32⟩
  | .hbm, ⟨88, _⟩ => ⟨S7168x40x64, .bf16⟩
  | .hbm, ⟨89, _⟩ => ⟨S_, .bf16⟩
  | .hbm, ⟨90, _⟩ => ⟨S7168x40x64, .bf16⟩
  | .hbm, ⟨91, _⟩ => ⟨S7168x40x64, .bf16⟩
  | .hbm, ⟨92, _⟩ => ⟨S7168x40x4x16, .bf16⟩
  | .hbm, ⟨93, _⟩ => ⟨S7168x40x1x4x1, .bf16⟩
  | .hbm, ⟨94, _⟩ => ⟨S7168x40x4x1, .bf16⟩
  | .hbm, ⟨95, _⟩ => ⟨S7168x40x4x16, .bf16⟩
  | .hbm, ⟨96, _⟩ => ⟨S7168x40x4x16, .bf16⟩
  | .hbm, ⟨97, _⟩ => ⟨S7168x40x64, .bf16⟩
  | .hbm, ⟨98, _⟩ => ⟨S256x1x40x1x64, .bf16⟩
  | .hbm, ⟨99, _⟩ => ⟨S256x1x40x64, .bf16⟩
  | .hbm, ⟨100, _⟩ => ⟨S256x1x7168, .f32⟩
  | .hbm, ⟨101, _⟩ => ⟨S256x1x7168, .f32⟩
  | .hbm, ⟨102, _⟩ => ⟨S7168x40x64, .i32⟩
  | .hbm, ⟨103, _⟩ => ⟨S_, .i32⟩
  | .hbm, ⟨104, _⟩ => ⟨S7168x40x64, .i32⟩
  | .hbm, ⟨105, _⟩ => ⟨S7168x40x64, .i32⟩
  | .hbm, ⟨106, _⟩ => ⟨S_, .i32⟩
  | .hbm, ⟨107, _⟩ => ⟨S7168x40x64, .i32⟩
  | .hbm, ⟨108, _⟩ => ⟨S7168x40x64, .i32⟩
  | .hbm, ⟨109, _⟩ => ⟨S_, .i32⟩
  | .hbm, ⟨110, _⟩ => ⟨S7168x40x64, .i32⟩
  | .hbm, ⟨111, _⟩ => ⟨S7168x40x64, .i32⟩
  | .hbm, ⟨112, _⟩ => ⟨S7168x40x64, .i32⟩
  | .hbm, ⟨113, _⟩ => ⟨S7168x40x64, .bf16⟩
  | .hbm, ⟨114, _⟩ => ⟨S_, .bf16⟩
  | .hbm, ⟨115, _⟩ => ⟨S7168x40x64, .bf16⟩
  | .hbm, ⟨116, _⟩ => ⟨S7168x40x64, .bf16⟩
  | .hbm, ⟨117, _⟩ => ⟨S7168x40x4x16, .bf16⟩
  | .hbm, ⟨118, _⟩ => ⟨S7168x40x1x4x1, .bf16⟩
  | .hbm, ⟨119, _⟩ => ⟨S7168x40x4x1, .bf16⟩
  | .hbm, ⟨120, _⟩ => ⟨S7168x40x4x16, .bf16⟩
  | .hbm, ⟨121, _⟩ => ⟨S7168x40x4x16, .bf16⟩
  | .hbm, ⟨122, _⟩ => ⟨S7168x40x64, .bf16⟩
  | .hbm, ⟨123, _⟩ => ⟨S256x1x40x1x64, .bf16⟩
  | .hbm, ⟨124, _⟩ => ⟨S256x1x40x64, .bf16⟩
  | .hbm, ⟨125, _⟩ => ⟨S256x1x7168, .f32⟩
  | .hbm, ⟨126, _⟩ => ⟨S256x1x7168, .f32⟩
  | .hbm, ⟨127, _⟩ => ⟨S256x1x7168, .bf16⟩
  | .local _ .vmem, ⟨0, _⟩ => ⟨S7168x40, .i16⟩
  | .local _ .vmem, ⟨1, _⟩ => ⟨S7168x40, .f32⟩
  | _, _ => ⟨S256x1x10240, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_8 : Ref sig .tc := ⟨.hbm, 71, rfl⟩
abbrev main_v56 : Ref sig .tc := ⟨.hbm, 72, rfl⟩
abbrev main_v57 : Ref sig .tc := ⟨.hbm, 73, rfl⟩
abbrev main_c_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_10 : Ref sig .tc := ⟨.hbm, 78, rfl⟩
abbrev main_v61 : Ref sig .tc := ⟨.hbm, 79, rfl⟩
abbrev main_v62 : Ref sig .tc := ⟨.hbm, 80, rfl⟩
abbrev main_c_11 : Ref sig .tc := ⟨.hbm, 81, rfl⟩
abbrev main_v63 : Ref sig .tc := ⟨.hbm, 82, rfl⟩
abbrev main_v64 : Ref sig .tc := ⟨.hbm, 83, rfl⟩
abbrev main_c_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_c_14 : Ref sig .tc := ⟨.hbm, 103, rfl⟩
abbrev main_v82 : Ref sig .tc := ⟨.hbm, 104, rfl⟩
abbrev main_v83 : Ref sig .tc := ⟨.hbm, 105, rfl⟩
abbrev main_c_15 : Ref sig .tc := ⟨.hbm, 106, rfl⟩
abbrev main_v84 : Ref sig .tc := ⟨.hbm, 107, rfl⟩
abbrev main_v85 : Ref sig .tc := ⟨.hbm, 108, rfl⟩
abbrev main_c_16 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_17 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S7168x40 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelFrame.lean ====
/-
The runs of `Kernel`, the values of nothing but the arguments read: it terminates, faults nowhere, leaves its arguments as they
were, and ends with every semaphore counter at zero. The kernel's body is run once, at any contents of every buffer it touches;
its loop by an invariant that owns the buffers a trip touches, at any contents.
-/
module

public import proofs.«01_k».proof.Proof.Gen.Kernel.Frame
public import proofs.«01_k».proof.Proof.Gen.Kernel.Loops
public import Idealize.ShloMosaic.Lib.Pipeline.FrameSuffixR
public import Idealize.ShloMosaic.Lib.Tactic
public import Idealize.ShloMosaic.Lib.Transfers

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The loop -/

set_option maxHeartbeats 4000000 in
set_option maxRecDepth 100000 in
set_option warn.classDefReducibility false in
/-- The loop's invariant: every buffer a trip touches, owned at some contents. -/
@[sl_loop] def loopD (𝒱 : Variants) (c : Dev nD) (bd : Option 𝒱.V) (E : Set ℕ) (i : grid0.Coords) (arg1 : Memref sig .tc .vmem S256x10240 .bf16) (harg1 : arg1.IsWhole) (arg2 : Memref sig .tc .hbm S286720x128 .i8) (harg2 : arg2.IsWhole) (arg3 : Memref sig .tc .vmem S40x64x512 .i8) (harg3 : arg3.IsWhole) (arg4 : Memref sig .tc .vmem S40x16x512 .i8) (harg4 : arg4.IsWhole) (arg5 : Memref sig .tc .vmem S40x512 .i16) (harg5 : arg5.IsWhole) (arg6 : Memref sig .tc .vmem S256x512 .bf16) (harg6 : arg6.IsWhole) (arg7 : Memref sig .tc .vmem S20480x128 .i8) (harg7 : arg7.IsWhole) (arg8 : Memref sig .tc .vmem S5120x128 .i32) (harg8 : arg8.IsWhole) (arg9 : Memref sig .tc .vmem S128x128 .i32) (harg9 : arg9.IsWhole) (arg10 : Memref sig .tc .vmem S4x40x128 .f32) (harg10 : arg10.IsWhole) (arg11 : Memref sig .tc .vmem S64x512 .i32) (harg11 : arg11.IsWhole) (arg12 : Memref sig .tc .vmem S4x1024x128 .bf16) (harg12 : arg12.IsWhole) (arg13 : Memref sig .tc .vmem S256x512 .f32) (harg13 : arg13.IsWhole) (v211_r0 : DmaSems sig S_) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v211_r0 where
  inv := fun _ _ => iprop((∃ f, arg1.view.loc (c : Thread nD τ) ↦[arg1.view.set]{fullShare} f) ∗ (∃ f, arg3.view.loc (c : Thread nD τ) ↦[arg3.view.set]{fullShare} f) ∗ (∃ f, arg4.view.loc (c : Thread nD τ) ↦[arg4.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f))
  step k acc := by
    have hk : k.val < 10 := Nat.lt_of_lt_of_le k.isLt k0_t1_abs.2.1
    unfold k0_t1_body
    iintro ⟨⟨%f1, H1⟩, ⟨%f3, H3⟩, ⟨%f4, H4⟩, ⟨%f8, H8⟩, ⟨%f9, H9⟩, ⟨%f10, H10⟩, ⟨%f11, H11⟩, ⟨%f12, H12⟩, ⟨%f13, H13⟩⟩
    sl_exec
    sl_step
    isplitl [H1]; · iexists _; iexact H1
    isplitl [H3]; · iexists _; iexact H3
    isplitl [H4]; · iexists _; iexact H4
    isplitl [H8]; · iexists _; iexact H8
    isplitl [H9]; · iexists _; iexact H9
    isplitl [H10]; · iexists _; iexact H10
    isplitl [H11]; · iexists _; iexact H11
    isplitl [H12]; · iexists _; iexact H12
    iexists _; iexact H13

/-! ## The operands of the body -/

abbrev ms0 (t : Fin cfg0.N) : Memref sig .tc .vmem S256x10240 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S40x64x512 .i8 := win0_1.stage (cfg0.slots t 1)
abbrev hs1 (t : Fin cfg0.N) : (ms1 t).IsWhole := hstage0_1 ((cfg0.slots t 1).cast nbuf0_1)
abbrev ms2 (t : Fin cfg0.N) : Memref sig .tc .vmem S40x16x512 .i8 := win0_2.stage (cfg0.slots t 2)
abbrev hs2 (t : Fin cfg0.N) : (ms2 t).IsWhole := hstage0_2 ((cfg0.slots t 2).cast nbuf0_2)
abbrev ms3 (t : Fin cfg0.N) : Memref sig .tc .vmem S40x512 .i16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x512 .bf16 := win0_4.stage (cfg0.slots t 4)
abbrev hs4 (t : Fin cfg0.N) : (ms4 t).IsWhole := hstage0_4 ((cfg0.slots t 4).cast nbuf0_4)
abbrev sc0 : Memref sig .tc .vmem S20480x128 .i8 := Memref.whole cc0_scratch0
abbrev sc1 : Memref sig .tc .vmem S5120x128 .i32 := Memref.whole cc0_scratch1
abbrev sc2 : Memref sig .tc .vmem S128x128 .i32 := Memref.whole cc0_scratch2
abbrev sc3 : Memref sig .tc .vmem S4x40x128 .f32 := Memref.whole cc0_scratch3
abbrev sc4 : Memref sig .tc .vmem S64x512 .i32 := Memref.whole cc0_scratch4
abbrev sc5 : Memref sig .tc .vmem S4x1024x128 .bf16 := Memref.whole cc0_scratch5
abbrev sc6 : Memref sig .tc .vmem S256x512 .f32 := Memref.whole cc0_scratch6
abbrev hbM : Memref sig .tc .hbm S286720x128 .i8 := Memref.whole main_v4
/-- A memref's buffer on core `c` held whole at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The one semaphore of the kernel's own. -/
abbrev osem0 : Fin 1 → SemLoc sig := fun j => (![SemLoc.dma 9] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0) := by
  rw [Pipeline.ownSems0_eq_of_list c osem0 [0] (by decide) (by decide)]; rfl
/-- The packed low bits, left in HBM. -/
def H0 : Finset (Ref sig .tc) := {main_v4}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM (V m c main_v4)) := by
  rw [BI.bigSep_eq_bigSepL_of_eq [main_v4] (by decide) (by decide)]; rfl

/-- The invariant between two points, conjunct by conjunct. -/
theorem PhiD0_eq (c : Dev nD) :
    (Pipeline.ΦD osem0 spec0 H0 (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)
          ∗ iprop(semVal ((c : Thread nD τ), SemLoc.dma 9) 0)
          ∗ iprop(hbPt c hbM (V m c main_v4))) := by
  rw [Pipeline.ΦD_eq, scopedRest0_eq, ownSems00_eq, hbmPts0_eq]; simp only [sc0, sc1, sc2, sc3, sc4, sc5, sc6, owns_whole]; try rfl

/-! ## The body, run once -/

set_option maxHeartbeats 4000000 in
set_option maxRecDepth 100000 in
/-- The body's triple: from every window and scratch at anything, the cell at zero, the array in HBM whole and the core owing
    nothing, the kernel runs to its return and hands all of it back. -/
theorem kernelRun (c : Dev nD) (i : grid0.Coords) (arg1 : Memref sig .tc .vmem S256x10240 .bf16) (harg1 : arg1.IsWhole) (arg3 : Memref sig .tc .vmem S40x64x512 .i8) (harg3 : arg3.IsWhole) (arg4 : Memref sig .tc .vmem S40x16x512 .i8) (harg4 : arg4.IsWhole) (arg5 : Memref sig .tc .vmem S40x512 .i16) (harg5 : arg5.IsWhole) (arg6 : Memref sig .tc .vmem S256x512 .bf16) (harg6 : arg6.IsWhole)
    (fh : Buf (Elt F) (hbM.view.loc (c : Thread nD τ))) (W : Waits sig Unit) (K : PUnit → sProp 𝕄) :
    iprop((∃ d, owns (c : Thread nD τ) arg1 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) sc0 fullShare d)
        ∗ (∃ d, owns (c : Thread nD τ) sc1 fullShare d)
        ∗ (∃ d, owns (c : Thread nD τ) sc2 fullShare d)
        ∗ (∃ d, owns (c : Thread nD τ) sc3 fullShare d)
        ∗ (∃ d, owns (c : Thread nD τ) sc4 fullShare d)
        ∗ (∃ d, owns (c : Thread nD τ) sc5 fullShare d)
        ∗ (∃ d, owns (c : Thread nD τ) sc6 fullShare d)
        ∗ semVal ((c : Thread nD τ), SemLoc.dma 9) 0 ∗ hbPt c hbM fh
        ∗ owes (c : Thread nD τ) 0 W
        ∗ (iprop((∃ d, owns (c : Thread nD τ) arg1 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) sc0 fullShare d)
        ∗ (∃ d, owns (c : Thread nD τ) sc1 fullShare d)
        ∗ (∃ d, owns (c : Thread nD τ) sc2 fullShare d)
        ∗ (∃ d, owns (c : Thread nD τ) sc3 fullShare d)
        ∗ (∃ d, owns (c : Thread nD τ) sc4 fullShare d)
        ∗ (∃ d, owns (c : Thread nD τ) sc5 fullShare d)
        ∗ (∃ d, owns (c : Thread nD τ) sc6 fullShare d)
              ∗ semVal ((c : Thread nD τ), SemLoc.dma 9) 0 ∗ hbPt c hbM fh
              ∗ ∃ W', owes (c : Thread nD τ) 0 W') -∗ K ⟨⟩))
      ⊢ wp frame (wpE (defs₀ (F := F)) Variants.none c none) Set.univ
          (cc0_q6k_linear i arg1 harg1 hbM (Memref.isWhole_whole _) arg3 harg3 arg4 harg4 arg5 harg5 arg6 harg6 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0) K := by
  simp only [cc0_q6k_linear_eq_skeleton]; unfold cc0_q6k_linear_skel
  unfold owns
  iintro ⟨⟨%d1, %f1, -, H1⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hq, Hh, HW, Hk⟩
  sl_exec
  sl_step
  iapply Hk
  isplitl [H1]
  · iexists _, _; isplitr; swap; · iexact H1
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [Hq]; · iexact Hq
  isplitl [Hh]; · iexact Hh
  iexists _; iexact HW

/-! ## The proof data and the body obligation -/

/-- Nothing is said of what the windows hold. -/
def forgets0 : Fin 5 → Bool := fun _ => true

/-- The proof data on core `c`. -/
def dats (_ : Fin 1) (c : Dev nD) : Dat τ (Elt F) Unit ℕ (Pipeline.UD sig nD τ) ℕ cfg0 c where
  A w := V m c (Pipeline.arrRef spec0 w)
  after w t := Pipeline.Dat.unnamed (cfg := cfg0) w t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare d)
    ∗ (∃ d, owns (c : Thread nD τ) (ms1 t) fullShare d)
    ∗ (∃ d, owns (c : Thread nD τ) (ms2 t) fullShare d)
    ∗ (∃ d, owns (c : Thread nD τ) (ms3 t) fullShare d)
    ∗ (∃ d, owns (c : Thread nD τ) (ms4 t) fullShare d))
/-- What it returns. -/
def bodyPost (c : Dev nD) (t : Fin cfg0.N) : sProp 𝕄 :=
  iprop((dats m 0 c).Φ t.succ ∗ (dats m 0 c).owesAt () t.succ
    ∗ (∃ d, owns (c : Thread nD τ) (ms0 t) fullShare d)
    ∗ (∃ d, owns (c : Thread nD τ) (ms1 t) fullShare d)
    ∗ (∃ d, owns (c : Thread nD τ) (ms2 t) fullShare d)
    ∗ (∃ d, owns (c : Thread nD τ) (ms3 t) fullShare d)
    ∗ (∃ d, owns (c : Thread nD τ) (ms4 t) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  iintro ⟨⟨⟨H7, H8, H9, H10, H11, H12, H13⟩, Hg, Hq, Hh⟩, ⟨%W, %hW, HO⟩, H1, H3, H4, H5, H6⟩
  iapply (kernelRun c (grid0.coords t) (ms0 t) (hs0 t) (ms1 t) (hs1 t) (ms2 t) (hs2 t) (ms3 t) (hs3 t) (ms4 t) (hs4 t) (V m c main_v4) W _)
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hq]; · iexact Hq
  isplitl [Hh]; · iexact Hh
  isplitl [HO]; · iexact HO
  iintro ⟨H1, H3, H4, H5, H6, H7, H8, H9, H10, H11, H12, H13, Hq, Hh, ⟨%W', HO⟩⟩
  isplitl [H7 H8 H9 H10 H11 H12 H13 Hg Hq Hh]
  · isplitl [H7 H8 H9 H10 H11 H12 H13]
    · isplitl [H7]; · iexact H7
      isplitl [H8]; · iexact H8
      isplitl [H9]; · iexact H9
      isplitl [H10]; · iexact H10
      isplitl [H11]; · iexact H11
      isplitl [H12]; · iexact H12
      iexact H13
    isplitl [Hg]; · iexact Hg
    isplitl [Hq]; · iexact Hq
    iexact Hh
  isplitl [HO]
  · iexists W'; isplitr; · ipureintro; exact fun _ _ => Or.inl trivial
    iexact HO
  isplitl [H1]; · iexact H1
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, nothing said of the windows. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option maxHeartbeats 800000 in
/-- @main around the region, at the algebra transfers run in. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region touches the kernel's result and @main's only. -/
theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  simp only [hostOps1, List.mem_cons, List.mem_nil_iff, or_false] at hop
  rcases hop with rfl
  rw [StableHlo.reshape_bufs]
  intro b hb
  unfold Pipeline.tailRefsBut
  rw [Finset.mem_map]
  simp only [Finset.mem_insert, Finset.mem_singleton] at hb
  rcases hb with rfl | rfl
  · exact ⟨main_v5, by decide, rfl⟩
  · exact ⟨main_v6, by decide, rfl⟩
/-- It writes @main's result. -/
theorem sfx_writes : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  simpa using Proc.devRef_injective _ hb

set_option backward.isDefEq.respectTransparency.types false in
/-- Every execution of @main terminates, with every array that is no window's as the region found it, but for @main's result,
    and every semaphore counter at zero. -/
theorem run_main :
    θ_run defs (onTc (τ := τ) (main (F := F))) (s₀ m ρ)
      (fun r => Pipeline.RDat.FramePostR (cfgs 0) (fun c => (dats m 0 c).toRForget forgets0) {main_v6} (V m) r ∧ r.2.sem = fun _ => 0) :=
  Pipeline.θ_run_frame_dma_around_T_forget (Q' := _) cfgs (dats m) (0 : Fin 1) launch0 osem0 defs₀ Variants.none forgets0 ownSemFacts0 H0 {main_v6} H0_sub m ρ main
    (hbody := fun c => (body_obligation m c).loose) (hshare := fun c => (dats m 0 c).share_full fun _ => rfl)
    (howed := fun _ _ => rfl) (V₀ := V0 m) (opss := [hostOps1]) (hsub := sfx_subBut) (hfresh := sfx_fresh) (hkeep := sfx_keeps)
    (hT := sfx_writes) (hmain := hmainD m Variants.none) (hA := A_eq m)
    (hin := fun _ => .rfl) (hout := fun _ => .rfl)

/-- `Kernel` runs, leaves its arguments as they were, and ends with every semaphore counter at zero. -/
theorem frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨?_, ?_, ?_, ?_, ?_⟩, h.2⟩) (run_main m ρ)
  · exact ((h.1 c).2 main_arg0 (by decide)).trans (V_main_arg0 m c)
  · exact ((h.1 c).2 main_arg1 (by decide)).trans (V_main_arg1 m c)
  · exact ((h.1 c).2 main_arg2 (by decide)).trans (V_main_arg2 m c)
  · exact ((h.1 c).2 main_arg3 (by decide)).trans (V_main_arg3 m c)
  · exact ((h.1 c).2 main_arg4 (by decide)).trans (V_main_arg4 m c)

end Cert.Kernel.Hand

end
-- ==== Proof.KernelIdealFrame.lean ====
/-
The runs of `KernelIdeal`, the values of nothing but the arguments read: it terminates, faults nowhere, leaves its arguments as they
were, and ends with every semaphore counter at zero. The kernel's body is run once, at any contents of every buffer it touches;
its loop by an invariant that owns the buffers a trip touches, at any contents.
-/
module

public import proofs.«01_k».proof.Proof.Gen.KernelIdeal.Frame
public import proofs.«01_k».proof.Proof.Gen.KernelIdeal.Loops
public import Idealize.ShloMosaic.Lib.Pipeline.FrameSuffixR
public import Idealize.ShloMosaic.Lib.Tactic
public import Idealize.ShloMosaic.Lib.Transfers

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The loop -/

set_option maxHeartbeats 4000000 in
set_option maxRecDepth 100000 in
set_option warn.classDefReducibility false in
/-- The loop's invariant: every buffer a trip touches, owned at some contents. -/
@[sl_loop] def loopD (𝒱 : Variants) (c : Dev nD) (bd : Option 𝒱.V) (E : Set ℕ) (i : grid0.Coords) (arg1 : Memref sig .tc .vmem S256x10240 .bf16) (harg1 : arg1.IsWhole) (arg2 : Memref sig .tc .hbm S286720x128 .i8) (harg2 : arg2.IsWhole) (arg3 : Memref sig .tc .vmem S40x64x512 .i8) (harg3 : arg3.IsWhole) (arg4 : Memref sig .tc .vmem S40x16x512 .i8) (harg4 : arg4.IsWhole) (arg5 : Memref sig .tc .vmem S40x512 .i16) (harg5 : arg5.IsWhole) (arg6 : Memref sig .tc .vmem S256x512 .bf16) (harg6 : arg6.IsWhole) (arg7 : Memref sig .tc .vmem S20480x128 .i8) (harg7 : arg7.IsWhole) (arg8 : Memref sig .tc .vmem S5120x128 .i32) (harg8 : arg8.IsWhole) (arg9 : Memref sig .tc .vmem S128x128 .i32) (harg9 : arg9.IsWhole) (arg10 : Memref sig .tc .vmem S4x40x128 .f32) (harg10 : arg10.IsWhole) (arg11 : Memref sig .tc .vmem S64x2x512 .bf16) (harg11 : arg11.IsWhole) (arg12 : Memref sig .tc .vmem S4x1024x128 .bf16) (harg12 : arg12.IsWhole) (arg13 : Memref sig .tc .vmem S256x512 .f32) (harg13 : arg13.IsWhole) (v211_r0 : DmaSems sig S_) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v211_r0 where
  inv := fun _ _ => iprop((∃ f, arg1.view.loc (c : Thread nD τ) ↦[arg1.view.set]{fullShare} f) ∗ (∃ f, arg3.view.loc (c : Thread nD τ) ↦[arg3.view.set]{fullShare} f) ∗ (∃ f, arg4.view.loc (c : Thread nD τ) ↦[arg4.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f))
  step k acc := by
    have hk : k.val < 10 := Nat.lt_of_lt_of_le k.isLt k0_t1_abs.2.1
    unfold k0_t1_body
    iintro ⟨⟨%f1, H1⟩, ⟨%f3, H3⟩, ⟨%f4, H4⟩, ⟨%f8, H8⟩, ⟨%f9, H9⟩, ⟨%f10, H10⟩, ⟨%f11, H11⟩, ⟨%f12, H12⟩, ⟨%f13, H13⟩⟩
    sl_exec
    sl_step
    isplitl [H1]; · iexists _; iexact H1
    isplitl [H3]; · iexists _; iexact H3
    isplitl [H4]; · iexists _; iexact H4
    isplitl [H8]; · iexists _; iexact H8
    isplitl [H9]; · iexists _; iexact H9
    isplitl [H10]; · iexists _; iexact H10
    isplitl [H11]; · iexists _; iexact H11
    isplitl [H12]; · iexists _; iexact H12
    iexists _; iexact H13

/-! ## The operands of the body -/

abbrev ms0 (t : Fin cfg0.N) : Memref sig .tc .vmem S256x10240 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S40x64x512 .i8 := win0_1.stage (cfg0.slots t 1)
abbrev hs1 (t : Fin cfg0.N) : (ms1 t).IsWhole := hstage0_1 ((cfg0.slots t 1).cast nbuf0_1)
abbrev ms2 (t : Fin cfg0.N) : Memref sig .tc .vmem S40x16x512 .i8 := win0_2.stage (cfg0.slots t 2)
abbrev hs2 (t : Fin cfg0.N) : (ms2 t).IsWhole := hstage0_2 ((cfg0.slots t 2).cast nbuf0_2)
abbrev ms3 (t : Fin cfg0.N) : Memref sig .tc .vmem S40x512 .i16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x512 .bf16 := win0_4.stage (cfg0.slots t 4)
abbrev hs4 (t : Fin cfg0.N) : (ms4 t).IsWhole := hstage0_4 ((cfg0.slots t 4).cast nbuf0_4)
abbrev sc0 : Memref sig .tc .vmem S20480x128 .i8 := Memref.whole cc0_scratch0
abbrev sc1 : Memref sig .tc .vmem S5120x128 .i32 := Memref.whole cc0_scratch1
abbrev sc2 : Memref sig .tc .vmem S128x128 .i32 := Memref.whole cc0_scratch2
abbrev sc3 : Memref sig .tc .vmem S4x40x128 .f32 := Memref.whole cc0_scratch3
abbrev sc4 : Memref sig .tc .vmem S64x2x512 .bf16 := Memref.whole cc0_scratch4
abbrev sc5 : Memref sig .tc .vmem S4x1024x128 .bf16 := Memref.whole cc0_scratch5
abbrev sc6 : Memref sig .tc .vmem S256x512 .f32 := Memref.whole cc0_scratch6
abbrev hbM : Memref sig .tc .hbm S286720x128 .i8 := Memref.whole main_v4
/-- A memref's buffer on core `c` held whole at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The one semaphore of the kernel's own. -/
abbrev osem0 : Fin 1 → SemLoc sig := fun j => (![SemLoc.dma 9] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0) := by
  rw [Pipeline.ownSems0_eq_of_list c osem0 [0] (by decide) (by decide)]; rfl
/-- The packed low bits, left in HBM. -/
def H0 : Finset (Ref sig .tc) := {main_v4}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM (V m c main_v4)) := by
  rw [BI.bigSep_eq_bigSepL_of_eq [main_v4] (by decide) (by decide)]; rfl

/-- The invariant between two points, conjunct by conjunct. -/
theorem PhiD0_eq (c : Dev nD) :
    (Pipeline.ΦD osem0 spec0 H0 (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)
          ∗ iprop(semVal ((c : Thread nD τ), SemLoc.dma 9) 0)
          ∗ iprop(hbPt c hbM (V m c main_v4))) := by
  rw [Pipeline.ΦD_eq, scopedRest0_eq, ownSems00_eq, hbmPts0_eq]; simp only [sc0, sc1, sc2, sc3, sc4, sc5, sc6, owns_whole]; try rfl

/-! ## The body, run once -/

set_option maxHeartbeats 4000000 in
set_option maxRecDepth 100000 in
/-- The body's triple: from every window and scratch at anything, the cell at zero, the array in HBM whole and the core owing
    nothing, the kernel runs to its return and hands all of it back. -/
theorem kernelRun (c : Dev nD) (i : grid0.Coords) (arg1 : Memref sig .tc .vmem S256x10240 .bf16) (harg1 : arg1.IsWhole) (arg3 : Memref sig .tc .vmem S40x64x512 .i8) (harg3 : arg3.IsWhole) (arg4 : Memref sig .tc .vmem S40x16x512 .i8) (harg4 : arg4.IsWhole) (arg5 : Memref sig .tc .vmem S40x512 .i16) (harg5 : arg5.IsWhole) (arg6 : Memref sig .tc .vmem S256x512 .bf16) (harg6 : arg6.IsWhole)
    (fh : Buf (Elt F) (hbM.view.loc (c : Thread nD τ))) (W : Waits sig Unit) (K : PUnit → sProp 𝕄) :
    iprop((∃ d, owns (c : Thread nD τ) arg1 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) sc0 fullShare d)
        ∗ (∃ d, owns (c : Thread nD τ) sc1 fullShare d)
        ∗ (∃ d, owns (c : Thread nD τ) sc2 fullShare d)
        ∗ (∃ d, owns (c : Thread nD τ) sc3 fullShare d)
        ∗ (∃ d, owns (c : Thread nD τ) sc4 fullShare d)
        ∗ (∃ d, owns (c : Thread nD τ) sc5 fullShare d)
        ∗ (∃ d, owns (c : Thread nD τ) sc6 fullShare d)
        ∗ semVal ((c : Thread nD τ), SemLoc.dma 9) 0 ∗ hbPt c hbM fh
        ∗ owes (c : Thread nD τ) 0 W
        ∗ (iprop((∃ d, owns (c : Thread nD τ) arg1 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) sc0 fullShare d)
        ∗ (∃ d, owns (c : Thread nD τ) sc1 fullShare d)
        ∗ (∃ d, owns (c : Thread nD τ) sc2 fullShare d)
        ∗ (∃ d, owns (c : Thread nD τ) sc3 fullShare d)
        ∗ (∃ d, owns (c : Thread nD τ) sc4 fullShare d)
        ∗ (∃ d, owns (c : Thread nD τ) sc5 fullShare d)
        ∗ (∃ d, owns (c : Thread nD τ) sc6 fullShare d)
              ∗ semVal ((c : Thread nD τ), SemLoc.dma 9) 0 ∗ hbPt c hbM fh
              ∗ ∃ W', owes (c : Thread nD τ) 0 W') -∗ K ⟨⟩))
      ⊢ wp frame (wpE (defs₀ (F := F)) Variants.none c none) Set.univ
          (cc0_q6k_linear i arg1 harg1 hbM (Memref.isWhole_whole _) arg3 harg3 arg4 harg4 arg5 harg5 arg6 harg6 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0) K := by
  simp only [cc0_q6k_linear_eq_skeleton]; unfold cc0_q6k_linear_skel
  unfold owns
  iintro ⟨⟨%d1, %f1, -, H1⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hq, Hh, HW, Hk⟩
  sl_exec
  sl_step
  iapply Hk
  isplitl [H1]
  · iexists _, _; isplitr; swap; · iexact H1
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [Hq]; · iexact Hq
  isplitl [Hh]; · iexact Hh
  iexists _; iexact HW

/-! ## The proof data and the body obligation -/

/-- Nothing is said of what the windows hold. -/
def forgets0 : Fin 5 → Bool := fun _ => true

/-- The proof data on core `c`. -/
def dats (_ : Fin 1) (c : Dev nD) : Dat τ (Elt F) Unit ℕ (Pipeline.UD sig nD τ) ℕ cfg0 c where
  A w := V m c (Pipeline.arrRef spec0 w)
  after w t := Pipeline.Dat.unnamed (cfg := cfg0) w t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare d)
    ∗ (∃ d, owns (c : Thread nD τ) (ms1 t) fullShare d)
    ∗ (∃ d, owns (c : Thread nD τ) (ms2 t) fullShare d)
    ∗ (∃ d, owns (c : Thread nD τ) (ms3 t) fullShare d)
    ∗ (∃ d, owns (c : Thread nD τ) (ms4 t) fullShare d))
/-- What it returns. -/
def bodyPost (c : Dev nD) (t : Fin cfg0.N) : sProp 𝕄 :=
  iprop((dats m 0 c).Φ t.succ ∗ (dats m 0 c).owesAt () t.succ
    ∗ (∃ d, owns (c : Thread nD τ) (ms0 t) fullShare d)
    ∗ (∃ d, owns (c : Thread nD τ) (ms1 t) fullShare d)
    ∗ (∃ d, owns (c : Thread nD τ) (ms2 t) fullShare d)
    ∗ (∃ d, owns (c : Thread nD τ) (ms3 t) fullShare d)
    ∗ (∃ d, owns (c : Thread nD τ) (ms4 t) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  iintro ⟨⟨⟨H7, H8, H9, H10, H11, H12, H13⟩, Hg, Hq, Hh⟩, ⟨%W, %hW, HO⟩, H1, H3, H4, H5, H6⟩
  iapply (kernelRun c (grid0.coords t) (ms0 t) (hs0 t) (ms1 t) (hs1 t) (ms2 t) (hs2 t) (ms3 t) (hs3 t) (ms4 t) (hs4 t) (V m c main_v4) W _)
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hq]; · iexact Hq
  isplitl [Hh]; · iexact Hh
  isplitl [HO]; · iexact HO
  iintro ⟨H1, H3, H4, H5, H6, H7, H8, H9, H10, H11, H12, H13, Hq, Hh, ⟨%W', HO⟩⟩
  isplitl [H7 H8 H9 H10 H11 H12 H13 Hg Hq Hh]
  · isplitl [H7 H8 H9 H10 H11 H12 H13]
    · isplitl [H7]; · iexact H7
      isplitl [H8]; · iexact H8
      isplitl [H9]; · iexact H9
      isplitl [H10]; · iexact H10
      isplitl [H11]; · iexact H11
      isplitl [H12]; · iexact H12
      iexact H13
    isplitl [Hg]; · iexact Hg
    isplitl [Hq]; · iexact Hq
    iexact Hh
  isplitl [HO]
  · iexists W'; isplitr; · ipureintro; exact fun _ _ => Or.inl trivial
    iexact HO
  isplitl [H1]; · iexact H1
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, nothing said of the windows. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option maxHeartbeats 800000 in
/-- @main around the region, at the algebra transfers run in. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region touches the kernel's result and @main's only. -/
theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  simp only [hostOps1, List.mem_cons, List.mem_nil_iff, or_false] at hop
  rcases hop with rfl
  rw [StableHlo.reshape_bufs]
  intro b hb
  unfold Pipeline.tailRefsBut
  rw [Finset.mem_map]
  simp only [Finset.mem_insert, Finset.mem_singleton] at hb
  rcases hb with rfl | rfl
  · exact ⟨main_v5, by decide, rfl⟩
  · exact ⟨main_v6, by decide, rfl⟩
/-- It writes @main's result. -/
theorem sfx_writes : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  simpa using Proc.devRef_injective _ hb

set_option backward.isDefEq.respectTransparency.types false in
/-- Every execution of @main terminates, with every array that is no window's as the region found it, but for @main's result,
    and every semaphore counter at zero. -/
theorem run_main :
    θ_run defs (onTc (τ := τ) (main (F := F))) (s₀ m ρ)
      (fun r => Pipeline.RDat.FramePostR (cfgs 0) (fun c => (dats m 0 c).toRForget forgets0) {main_v6} (V m) r ∧ r.2.sem = fun _ => 0) :=
  Pipeline.θ_run_frame_dma_around_T_forget (Q' := _) cfgs (dats m) (0 : Fin 1) launch0 osem0 defs₀ Variants.none forgets0 ownSemFacts0 H0 {main_v6} H0_sub m ρ main
    (hbody := fun c => (body_obligation m c).loose) (hshare := fun c => (dats m 0 c).share_full fun _ => rfl)
    (howed := fun _ _ => rfl) (V₀ := V0 m) (opss := [hostOps1]) (hsub := sfx_subBut) (hfresh := sfx_fresh) (hkeep := sfx_keeps)
    (hT := sfx_writes) (hmain := hmainD m Variants.none) (hA := A_eq m)
    (hin := fun _ => .rfl) (hout := fun _ => .rfl)

/-- `KernelIdeal` runs, leaves its arguments as they were, and ends with every semaphore counter at zero. -/
theorem frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨?_, ?_, ?_, ?_, ?_⟩, h.2⟩) (run_main m ρ)
  · exact ((h.1 c).2 main_arg0 (by decide)).trans (V_main_arg0 m c)
  · exact ((h.1 c).2 main_arg1 (by decide)).trans (V_main_arg1 m c)
  · exact ((h.1 c).2 main_arg2 (by decide)).trans (V_main_arg2 m c)
  · exact ((h.1 c).2 main_arg3 (by decide)).trans (V_main_arg3 m c)
  · exact ((h.1 c).2 main_arg4 (by decide)).trans (V_main_arg4 m c)

end Cert.KernelIdeal.Hand

end
-- ==== Proof.Rolled.lean ====
/-
The region of the kernel's loop over the ten groups of super-blocks, written once more as a rolled
program: the printed region is unrolled over the four column blocks, the four quarters of a
transposed block, the four super-blocks of a group, the two halves and the two sub-blocks. The
theorem `region_eq` says that the two are the same program.
-/
module

public import proofs.«01_k».proof.Proof.Gen.KernelIdeal.Skeleton

@[expose] public section

set_option synthInstance.maxSize 4096

noncomputable section

namespace Cert.KernelIdeal.Rolled

open Idealize.ShloMosaic Idealize.SL.Sem
open Cert.KernelIdeal.Gen

variable {F : FTy → Type} [FloatOps F]

/-- A program of the kernel's core that returns nothing. -/
abbrev Act (F : FTy → Type) : Type 1 := Prog (TpuEff nD τ sig (Elt F) Λ₀ .tc) PUnit

/-- Four programs in a row. -/
def four (f : Fin 4 → Act F) : Act F := do f 0; f 1; f 2; f 3

/-- Two programs in a row. -/
def two (f : Fin 2 → Act F) : Act F := do f 0; f 1

/-! ## The scales of one super-block -/

/-- Where column block `c` finds the row of decoded factors of super-block `n` of group `k`. -/
def offD (k : Fin k0_t1_loop.trips) (c n : Fin 4) : Fin 3 → Nat :=
  match c with
  | 0 => k0_off2 k (BitVec.ofNat 32 n.val)
  | 1 => k0_off7 k (BitVec.ofNat 32 n.val)
  | 2 => k0_off11 k (BitVec.ofNat 32 n.val)
  | 3 => k0_off15 k (BitVec.ofNat 32 n.val)

theorem offD_inb (k : Fin k0_t1_loop.trips) (c n : Fin 4) (a : Fin 3) :
    offD k c n a + S1x1x128.size a ≤ S4x40x128.size a := by
  fin_cases c
  exacts [k0_off2_inb k n a, k0_off7_inb k n a, k0_off11_inb k n a, k0_off15_inb k n a]

/-- Where column block `c` finds the sixteen rows of integer scales of super-block `n` of group `k`. -/
def offS (k : Fin k0_t1_loop.trips) (c n : Fin 4) : Fin 3 → Nat :=
  match c with
  | 0 => k0_off3 k (BitVec.ofNat 32 n.val)
  | 1 => k0_off8 k (BitVec.ofNat 32 n.val)
  | 2 => k0_off12 k (BitVec.ofNat 32 n.val)
  | 3 => k0_off16 k (BitVec.ofNat 32 n.val)

theorem offS_inb (k : Fin k0_t1_loop.trips) (c n : Fin 4) (a : Fin 3) :
    offS k c n a + S1x16x128.size a ≤ S40x16x512.size a := by
  fin_cases c
  exacts [k0_off3_inb k n a, k0_off8_inb k n a, k0_off12_inb k n a, k0_off16_inb k n a]

/-- The corner of the block of scale pairs of column block `c` and super-block `n`. -/
def cornerS (c n : Fin 4) : Fin 3 → Nat := ![16 * n.val, 0, 128 * c.val]

theorem cornerS_inb (c n : Fin 4) (a : Fin 3) : cornerS c n a + S16x2x128.size a ≤ S64x2x512.size a := by
  revert c n a; decide

/-- The scales of a super-block, each one twice: an integer scale times the decoded factor. -/
def scales (d : Vec F S1x1x128 .f32) (s : Vec F S1x16x128 .i8) : Vec F S16x2x128 .bf16 :=
  let p : FVec F S16x128 .f32 := mulf
    (sitofp .f32 (extsi 32 (shapeCast S16x128 s shapeCasts_S1x16x128_S16x128) natLt_8_32))
    (broadcastTo S16x128 (shapeCast S1x128 d shapeCasts_S1x1x128_S1x128) broadcasts_S1x128_S16x128)
  interleaveRows S16x2x128 (shapeCast S16x1x128 (truncf .bf16 p bitsLt_bf16_f32) shapeCasts_S16x128_S16x1x128)
    (shapeCast S16x1x128 (truncf .bf16 p bitsLt_bf16_f32) shapeCasts_S16x128_S16x1x128) bitcasts_S16x2x128_w16_S16x1x128_w32

section
variable (arg1 : Memref sig .tc .vmem S256x10240 .bf16) (arg3 : Memref sig .tc .vmem S40x64x512 .i8) (arg4 : Memref sig .tc .vmem S40x16x512 .i8)
  (arg8 : Memref sig .tc .vmem S5120x128 .i32) (arg9 : Memref sig .tc .vmem S128x128 .i32) (arg10 : Memref sig .tc .vmem S4x40x128 .f32)
  (arg11 : Memref sig .tc .vmem S64x2x512 .bf16) (harg11 : arg11.IsWhole) (arg12 : Memref sig .tc .vmem S4x1024x128 .bf16) (harg12 : arg12.IsWhole)
  (arg13 : Memref sig .tc .vmem S256x512 .f32) (k : Fin k0_t1_loop.trips)

/-- The scales of super-block `n`, column block `c`, into the scale scratch. -/
def scaleStep (c n : Fin 4) : Act F := do
  let d : Vec F S1x1x128 .f32 ← Prog.lift (.load arg10 (Rect.unit (s := S4x40x128) (offD k c n) S1x1x128.size (offD_inb k c n)).toLoadRect (View.loadsAt_vmem h_S1x1x128))
  let s : Vec F S1x16x128 .i8 ← Prog.lift (.load arg4 (Rect.unit (s := S40x16x512) (offS k c n) S1x16x128.size (offS_inb k c n)).toLoadRect (View.loadsAt_vmem h_S1x16x128))
  let _o : Vec F S16x2x128 .bf16 ← Prog.lift (.load arg11 (Rect.unit (s := S64x2x512) (cornerS c n) S16x2x128.size (cornerS_inb c n)).toLoadRect (View.loadsAt_vmem h_S16x2x128))
  Prog.lift (.store arg11 (Rect.unit (s := S64x2x512) (cornerS c n) S16x2x128.size (cornerS_inb c n)) (scales d s) Finset.univ (View.stores_vmem h_S16x2x128 ((harg11.pairWhole rank2_S64x2x512).storeExact_slice rfl _ (Rect.wholeRows_unit rank2_S64x2x512 rfl rfl) pairs_S64x2x512_bf16) (fun _ => rfl)) (.inl rfl))

/-! ## The words of one column block, transposed -/

/-- The words of column block `c` that belong to group `k`, transposed into their scratch. -/
def wordStep (c : Fin 4) : Act F := do
  let w : Vec F S128x128 .i32 ← Prog.lift (.load arg8 (⟨k0_off4 k (BitVec.ofNat 32 (1280 * c.val)), S128x128.size, ![10, 1], (k0_off4_inb k c)⟩ : LoadRect S5120x128) (View.loadsAt_vmem h_S128x128))
  let _o : Vec F S128x128 .i32 ← Prog.lift (.load arg9 (Rect.unit (s := S128x128) ![0, 0] S128x128.size inb_S128x128_S128x128_0_0).toLoadRect (View.loadsAt_vmem h_S128x128))
  Prog.lift (.store arg9 (Rect.unit (s := S128x128) ![0, 0] S128x128.size inb_S128x128_S128x128_0_0) (shapeCast S128x128 (transpose S128x128 [1, 0] w transposes_S128x128_p1_0_S128x128) shapeCasts_S128x128_S128x128) Finset.univ (View.stores_vmem_bits_univ h_S128x128 rfl) (.inl rfl))

/-! ## One quarter of a column block -/

/-- Row `32 q + r` of the transposed words, and each fourth row from there. -/
theorem quarter_inb (q r : Fin 4) (a : Fin 2) :
    S8x128.size a = 0 ∨ (![32 * q.val + r.val, 0] : Fin 2 → Nat) a + (![4, 1] : Fin 2 → Nat) a * (S8x128.size a - 1) < S128x128.size a := by
  revert q r a; decide

/-- The low halves of the words of `a` next to the low halves of the words of `b`; -/
def lo16 (a b : IVec S8x128 32) : IVec S8x128 32 :=
  ori (andi a (broadcast S8x128 65535#32)) (shli b (broadcast S8x128 16#32))
/-- and their high halves. -/
def hi16 (a b : IVec S8x128 32) : IVec S8x128 32 :=
  ori (shrui a (broadcast S8x128 16#32)) (andi b (broadcast S8x128 4294901760#32))
/-- The even bytes of the words of `a` next to the even bytes of the words of `b`; -/
def lo8 (a b : IVec S8x128 32) : IVec S8x128 32 :=
  ori (andi a (broadcast S8x128 16711935#32)) (andi (shli b (broadcast S8x128 8#32)) (broadcast S8x128 4278255360#32))
/-- and their odd bytes. -/
def hi8 (a b : IVec S8x128 32) : IVec S8x128 32 :=
  ori (andi (shrui a (broadcast S8x128 8#32)) (broadcast S8x128 16711935#32)) (andi b (broadcast S8x128 4278255360#32))

/-- The words of super-block `n`: byte `n` of each of four words. -/
def blockWords (a0 a1 a2 a3 : IVec S8x128 32) (n : Fin 4) : IVec S8x128 32 :=
  match n with
  | 0 => lo8 (lo16 a0 a2) (lo16 a1 a3)
  | 1 => hi8 (lo16 a0 a2) (lo16 a1 a3)
  | 2 => lo8 (hi16 a0 a2) (hi16 a1 a3)
  | 3 => hi8 (hi16 a0 a2) (hi16 a1 a3)

/-- The low four bits of the codes: bits 2 to 5 of each byte. -/
def lowBits (v : IVec S8x128 32) (half : Fin 2) : IVec S8x128 32 :=
  match half with
  | 0 => andi (shli v (broadcast S8x128 2#32)) (broadcast S8x128 1010580540#32)
  | 1 => andi (shrui v (broadcast S8x128 2#32)) (broadcast S8x128 1010580540#32)

/-- How far the word of high bits is shifted. -/
def topShift (q : Fin 4) (half : Fin 2) : BitVec 32 := BitVec.ofNat 32 (6 - 2 * (2 * half.val + q.val / 2))

/-- Four times the signed codes of a half, as numbers. -/
def codes (v hi : IVec S8x128 32) (q : Fin 4) (half : Fin 2) : FVec F S32x128 .bf16 :=
  sitofp .bf16 (bitcast S32x128 8
    (ori (lowBits v half) (andi (shli hi (broadcast S8x128 (topShift q half))) (broadcast S8x128 3233857728#32)))
    bitcasts_S8x128_w32_S32x128_w8)

/-- Where column block `c` finds the high bits of super-block `n` of group `k` for quarter `q`. -/
def offH (k : Fin k0_t1_loop.trips) (c q n : Fin 4) : Fin 3 → Nat :=
  match c, q with
  | 0, 0 => k0_off5 k (BitVec.ofNat 32 n.val)
  | 0, 1 => k0_off6 k (BitVec.ofNat 32 n.val)
  | 0, 2 => k0_off5 k (BitVec.ofNat 32 n.val)
  | 0, 3 => k0_off6 k (BitVec.ofNat 32 n.val)
  | 1, 0 => k0_off9 k (BitVec.ofNat 32 n.val)
  | 1, 1 => k0_off10 k (BitVec.ofNat 32 n.val)
  | 1, 2 => k0_off9 k (BitVec.ofNat 32 n.val)
  | 1, 3 => k0_off10 k (BitVec.ofNat 32 n.val)
  | 2, 0 => k0_off13 k (BitVec.ofNat 32 n.val)
  | 2, 1 => k0_off14 k (BitVec.ofNat 32 n.val)
  | 2, 2 => k0_off13 k (BitVec.ofNat 32 n.val)
  | 2, 3 => k0_off14 k (BitVec.ofNat 32 n.val)
  | 3, 0 => k0_off17 k (BitVec.ofNat 32 n.val)
  | 3, 1 => k0_off18 k (BitVec.ofNat 32 n.val)
  | 3, 2 => k0_off17 k (BitVec.ofNat 32 n.val)
  | 3, 3 => k0_off18 k (BitVec.ofNat 32 n.val)

theorem offH_inb (k : Fin k0_t1_loop.trips) (c q n : Fin 4) (a : Fin 3) :
    offH k c q n a + S1x32x128.size a ≤ S40x64x512.size a := by
  fin_cases c <;> fin_cases q
  exacts [k0_off5_inb k n a, k0_off6_inb k n a, k0_off5_inb k n a, k0_off6_inb k n a,
    k0_off9_inb k n a, k0_off10_inb k n a, k0_off9_inb k n a, k0_off10_inb k n a,
    k0_off13_inb k n a, k0_off14_inb k n a, k0_off13_inb k n a, k0_off14_inb k n a,
    k0_off17_inb k n a, k0_off18_inb k n a, k0_off17_inb k n a, k0_off18_inb k n a]

/-- The first of the sixteen weights of sub-block `h` of a half of super-block `n`, quarter `q`. -/
def rowW (q n : Fin 4) (half h : Fin 2) : Nat := n.val * 256 + half.val * 128 + q.val * 32 + h.val * 16
/-- The row of scale pairs that goes with them. -/
def rowS (q n : Fin 4) (half h : Fin 2) : Nat := n.val * 16 + half.val * 8 + q.val * 2 + h.val

theorem rowS_inb (c q n : Fin 4) (half h : Fin 2) (a : Fin 3) :
    (![rowS q n half h, 0, 128 * c.val] : Fin 3 → Nat) a + S1x2x128.size a ≤ S64x2x512.size a := by
  revert c q n half h a; decide

theorem rowW_inb (c q n : Fin 4) (half h : Fin 2) (a : Fin 3) :
    (![c.val, rowW q n half h, 0] : Fin 3 → Nat) a + S1x16x128.size a ≤ S4x1024x128.size a := by
  revert c q n half h a; decide

theorem rowW_packed (c q n : Fin 4) (half h : Fin 2) :
    (Rect.unit (s := S4x1024x128) ![c.val, rowW q n half h, 0] S1x16x128.size (rowW_inb c q n half h)).PackedRows (EltTy.packing .bf16) := by
  revert c q n half h; decide

theorem half_slices (h : Fin 2) : S32x128.Slices ![16 * h.val, 0] S16x128 := by
  fin_cases h
  exacts [slices_S32x128_o0_0_S16x128, slices_S32x128_o16_0_S16x128]

/-- A row of scale pairs, repeated down eight rows. -/
def scaleBlock (s : Vec F S1x2x128 .bf16) : FVec F S16x128 .bf16 :=
  let lo : FVec F S1x128 .bf16 := shapeCast S1x128 (rowsOfParity 0 S1x1x128 s bitcasts_S1x2x128_w16_S1x1x128_w32) shapeCasts_S1x1x128_S1x128
  let hi : FVec F S1x128 .bf16 := shapeCast S1x128 (rowsOfParity 1 S1x1x128 s bitcasts_S1x2x128_w16_S1x1x128_w32) shapeCasts_S1x1x128_S1x128
  interleaveRows S16x128
    (concatenate S8x128 0 [⟨S1x128, lo⟩, ⟨S1x128, lo⟩, ⟨S1x128, lo⟩, ⟨S1x128, lo⟩, ⟨S1x128, lo⟩, ⟨S1x128, lo⟩, ⟨S1x128, lo⟩, ⟨S1x128, lo⟩] concatenates_S1x128_S1x128_S1x128_S1x128_S1x128_S1x128_S1x128_S1x128_S8x128_d0)
    (concatenate S8x128 0 [⟨S1x128, hi⟩, ⟨S1x128, hi⟩, ⟨S1x128, hi⟩, ⟨S1x128, hi⟩, ⟨S1x128, hi⟩, ⟨S1x128, hi⟩, ⟨S1x128, hi⟩, ⟨S1x128, hi⟩] concatenates_S1x128_S1x128_S1x128_S1x128_S1x128_S1x128_S1x128_S1x128_S8x128_d0)
    bitcasts_S16x128_w16_S8x128_w32

/-- Sixteen rows of weights: the codes times the scales. -/
def weights (cd : FVec F S32x128 .bf16) (s : Vec F S1x2x128 .bf16) (h : Fin 2) : Vec F S1x16x128 .bf16 :=
  shapeCast S1x16x128 (mulf (extractStridedSlice S16x128 ![16 * h.val, 0] cd (half_slices h)) (scaleBlock s)) shapeCasts_S16x128_S1x16x128

/-- Sixteen rows of weights into the weight scratch. -/
def weightStep (c q n : Fin 4) (half : Fin 2) (cd : FVec F S32x128 .bf16) (h : Fin 2) : Act F := do
  let s : Vec F S1x2x128 .bf16 ← Prog.lift (.load arg11 (Rect.unit (s := S64x2x512) ![rowS q n half h, 0, 128 * c.val] S1x2x128.size (rowS_inb c q n half h)).toLoadRect (View.loadsAt_vmem h_S1x2x128))
  let _o : Vec F S1x16x128 .bf16 ← Prog.lift (.load arg12 (Rect.unit (s := S4x1024x128) ![c.val, rowW q n half h, 0] S1x16x128.size (rowW_inb c q n half h)).toLoadRect (View.loadsAt_vmem h_S1x16x128))
  Prog.lift (.store arg12 (Rect.unit (s := S4x1024x128) ![c.val, rowW q n half h, 0] S1x16x128.size (rowW_inb c q n half h)) (weights cd s h) Finset.univ (View.stores_vmem h_S1x16x128 (harg12.storeExact_slice rfl _ (rowW_packed c q n half h)) (fun _ => rfl)) (.inl rfl))

/-- The weights of super-block `n` in quarter `q` of column block `c`. -/
def blockStep (c q : Fin 4) (a0 a1 a2 a3 : IVec S8x128 32) (n : Fin 4) : Act F := do
  let hb : Vec F S1x32x128 .i8 ← Prog.lift (.load arg3 (Rect.unit (s := S40x64x512) (offH k c q n) S1x32x128.size (offH_inb k c q n)).toLoadRect (View.loadsAt_vmem h_S1x32x128))
  two fun half => two (weightStep arg11 arg12 harg12 c q n half
    (codes (blockWords a0 a1 a2 a3 n)
      (xori (bitcast S8x128 32 (shapeCast S32x128 hb shapeCasts_S1x32x128_S32x128) bitcasts_S32x128_w8_S8x128_w32) (broadcast S8x128 2863311530#32)) q half))

/-- The weights of quarter `q` of column block `c`. -/
def quarterStep (c q : Fin 4) : Act F := do
  let a0 : Vec F S8x128 .i32 ← Prog.lift (.load arg9 (⟨![32 * q.val + (0 : Fin 4).val, 0], S8x128.size, ![4, 1], quarter_inb q 0⟩ : LoadRect S128x128) (View.loadsAt_vmem h_S8x128))
  let a1 : Vec F S8x128 .i32 ← Prog.lift (.load arg9 (⟨![32 * q.val + (1 : Fin 4).val, 0], S8x128.size, ![4, 1], quarter_inb q 1⟩ : LoadRect S128x128) (View.loadsAt_vmem h_S8x128))
  let a2 : Vec F S8x128 .i32 ← Prog.lift (.load arg9 (⟨![32 * q.val + (2 : Fin 4).val, 0], S8x128.size, ![4, 1], quarter_inb q 2⟩ : LoadRect S128x128) (View.loadsAt_vmem h_S8x128))
  let a3 : Vec F S8x128 .i32 ← Prog.lift (.load arg9 (⟨![32 * q.val + (3 : Fin 4).val, 0], S8x128.size, ![4, 1], quarter_inb q 3⟩ : LoadRect S128x128) (View.loadsAt_vmem h_S8x128))
  four (blockStep arg3 arg11 arg12 harg12 k c q a0 a1 a2 a3)

/-- The weights of column block `c`. -/
def columnStep (c : Fin 4) : Act F := do
  four (scaleStep arg4 arg10 arg11 harg11 k c)
  wordStep arg8 arg9 k c
  four (quarterStep arg3 arg9 arg11 arg12 harg12 k c)

/-! ## The products of two column blocks -/

theorem slab_inb (c : Fin 4) (a : Fin 3) : (![c.val, 0, 0] : Fin 3 → Nat) a + S1x1024x128.size a ≤ S4x1024x128.size a := by
  revert c a; decide

theorem pair_inb (p : Fin 2) (a : Fin 2) : (![0, 256 * p.val] : Fin 2 → Nat) a + S256x256.size a ≤ S256x512.size a := by
  revert p a; decide

/-- The first and the second column block of a pair. -/
def fst4 (p : Fin 2) : Fin 4 := match p with | 0 => 0 | 1 => 2
/-- The second column block of a pair. -/
def snd4 (p : Fin 2) : Fin 4 := match p with | 0 => 1 | 1 => 3

/-- What a pair of column blocks adds to the accumulator's columns `acc`. -/
def product (w0 w1 : Vec F S1x1024x128 .bf16) (acc : Vec F S256x256 .f32) (x : Vec F S256x1024 .bf16) : Vec F S256x256 .f32 :=
  shapeCast S256x256 (addf acc (matmul dot_S256x1024_S1024x256_S256x256_1_0_0_1_n_n none (shapeCast S256x1024 x shapeCasts_S256x1024_S256x1024)
    (concatenate S1024x256 1 [⟨S1024x128, shapeCast S1024x128 w0 shapeCasts_S1x1024x128_S1024x128⟩, ⟨S1024x128, shapeCast S1024x128 w1 shapeCasts_S1x1024x128_S1024x128⟩] concatenates_S1024x128_S1024x128_S1024x256_d1)
    (constant S256x256 .f32 0x00000000#32))) shapeCasts_S256x256_S256x256

/-- The products of a pair of column blocks, added to the accumulator. -/
def productStep (p : Fin 2) : Act F := do
  let w0 : Vec F S1x1024x128 .bf16 ← Prog.lift (.load arg12 (Rect.unit (s := S4x1024x128) ![(fst4 p).val, 0, 0] S1x1024x128.size (slab_inb (fst4 p))).toLoadRect (View.loadsAt_vmem h_S1x1024x128))
  let w1 : Vec F S1x1024x128 .bf16 ← Prog.lift (.load arg12 (Rect.unit (s := S4x1024x128) ![(snd4 p).val, 0, 0] S1x1024x128.size (slab_inb (snd4 p))).toLoadRect (View.loadsAt_vmem h_S1x1024x128))
  let acc : Vec F S256x256 .f32 ← Prog.lift (.load arg13 (Rect.unit (s := S256x512) ![0, 256 * p.val] S256x256.size (pair_inb p)).toLoadRect (View.loadsAt_vmem h_S256x256))
  let x : Vec F S256x1024 .bf16 ← Prog.lift (.load arg1 (Rect.unit (s := S256x10240) (k0_off19 k) S256x1024.size (k0_off19_inb k)).toLoadRect (View.loadsAt_vmem h_S256x1024))
  let _o : Vec F S256x256 .f32 ← Prog.lift (.load arg13 (Rect.unit (s := S256x512) ![0, 256 * p.val] S256x256.size (pair_inb p)).toLoadRect (View.loadsAt_vmem h_S256x256))
  Prog.lift (.store arg13 (Rect.unit (s := S256x512) ![0, 256 * p.val] S256x256.size (pair_inb p)) (product w0 w1 acc x) Finset.univ (View.stores_vmem_bits_univ h_S256x256 rfl) (.inl rfl))

/-- One group: the weights of the four column blocks, then the products of the two pairs. -/
def region : Act F := do
  four (columnStep arg3 arg4 arg8 arg9 arg10 arg11 harg11 arg12 harg12 k)
  two (productStep arg1 arg12 arg13 k)

end

end Cert.KernelIdeal.Rolled
-- ==== Proof.Triples.lean ====
/-
Rules for the loads and stores of the rolled program, at known contents, and what it means for a program to fill a
set of elements of a buffer.
-/
module

public import proofs.«01_k».proof.Proof.KernelIdealFrame
public import proofs.«01_k».proof.Proof.Rolled
public import Idealize.ShloMosaic.Lib.VecWindow
public import Idealize.ShloMosaic.Lib.Pointwise

@[expose] public section

noncomputable section

namespace Cert.KernelIdeal.Value

open Cert.KernelIdeal Cert.KernelIdeal.Gen Cert.KernelIdeal.Rolled
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

variable (𝒱 : Variants) (c : Dev nD) (bd : Option 𝒱.V) (E : Set ℕ)

/-- The program runs, from here, to a state of `Q`. -/
abbrev Runs {α : Type} (p : Prog (TpuEff nD τ sig (Elt Ideal) Λ₀ .tc) α) (Q : α → sProp 𝕄) : sProp 𝕄 :=
  wp frame (wpE (defs₀ (F := Ideal)) 𝒱 (c : Thread nD τ) bd) E p Q

/-- The core owns the memref's elements, which read `X`. -/
abbrev Own {S : Shape} {e : EltTy} (M : Memref sig .tc .vmem S e) (X : S.Idx → Elt Ideal e) : sProp 𝕄 :=
  owns (c : Thread nD τ) M fullShare X

variable {c} in
/-- A load hands the program what the memref reads at the loaded positions. -/
theorem load_rule {S : Shape} {e : EltTy} {α : Type} (M : Memref sig .tc .vmem S e) (r : LoadRect S) (hl : M.view.LoadsAt r)
    (X : S.Idx → Elt Ideal e) (k : (r.shape.Idx → Elt Ideal e) → Prog (TpuEff nD τ sig (Elt Ideal) Λ₀ .tc) α) (Q : α → sProp 𝕄) :
    iprop(Own c M X ∗ (Own c M X -∗ Runs 𝒱 c bd E (k fun j => X (r.idx j)) Q))
      ⊢ Runs 𝒱 c bd E (Prog.lift (TpuEff.load M r hl) >>= k) Q := by
  show _ ⊢ wp frame (wpE (defs₀ (F := Ideal)) 𝒱 (c : Thread nD τ) bd) E (.op (.load M r hl) k) Q
  unfold Own owns
  iintro ⟨⟨%f, %hf, H⟩, Hk⟩
  iapply (wp_load 𝒱 (c : Thread nD τ) bd E (m := M) (r := r) (hl := hl) (k := k) (Q := Q) (q := fullShare) (f := f) (M.view.setOn_subset_set _)) $$ H
  iintro H
  have he : M.view.readAt (Elt Ideal) r f = fun j => X (r.idx j) := by rw [← hf]; rfl
  rw [he]
  iapply Hk
  iexists f; isplitr
  · ipureintro; exact hf
  iexact H

variable {c} in
/-- A store leaves the payload in the stored rectangle, and the rest as it was. -/
theorem store_rule {S : Shape} {e : EltTy} (M : Memref sig .tc .vmem S e) (off size : Fin S.rank → ℕ) (inb : ∀ a, off a + size a ≤ S.size a)
    (w : (Rect.unit off size inb).shape.Idx → Elt Ideal e) (hx : (M.access (Rect.unit off size inb)).Stores Finset.univ)
    (hm : Finset.univ = Finset.univ ∨ ∀ a, (Rect.unit off size inb).stride a = 1) (X : S.Idx → Elt Ideal e) (Q : PUnit → sProp 𝕄) :
    iprop(Own c M X ∗ (Own c M (VecWindow.put X off size w) -∗ Q ⟨⟩))
      ⊢ Runs 𝒱 c bd E (Prog.lift (TpuEff.store M (Rect.unit off size inb) w Finset.univ hx hm)) Q := by
  show _ ⊢ wp frame (wpE (defs₀ (F := Ideal)) 𝒱 (c : Thread nD τ) bd) E (.op (.store M (Rect.unit off size inb) w Finset.univ hx hm) .ret) Q
  unfold Own owns
  iintro ⟨⟨%f, %hf, H⟩, Hk⟩
  iapply (wp_store_writes₀ 𝒱 (c : Thread nD τ) bd E (m := M) (r := Rect.unit off size inb) (w := w) (hx := hx) (hm := hm) (k := .ret) (Q := Q) (f := f)
    (by exact M.setOn_access_subset (Rect.unit off size inb) Finset.univ)) $$ H
  iintro H
  iapply (le_wp_ret frame (wpE (defs₀ (F := Ideal)) 𝒱 (c : Thread nD τ) bd) E PUnit.unit Q)
  iapply Hk
  iexists _; isplitr; swap
  · iexact H
  ipureintro
  rw [View.read_writes_cons_put M.view f inb w [] rfl, View.writes_nil, hf]

/-- The program, which keeps `R`, leaves `W` on `D` and the rest of the memref's elements as they were. -/
def Fills (R : sProp 𝕄) {S : Shape} {e : EltTy} (M : Memref sig .tc .vmem S e) (D : Set S.Idx) (W : S.Idx → Elt Ideal e) (p : Act Ideal) : Prop :=
  ∀ Y, iprop(R ∗ Own c M Y) ⊢ Runs 𝒱 c bd E p (fun _ => iprop(R ∗ ∃ Y', ⌜(∀ i ∈ D, Y' i = W i) ∧ ∀ i, i ∉ D → Y' i = Y i⌝ ∗ Own c M Y'))

variable {𝒱 c bd E}

/-- One program after another fills what either of them fills. -/
theorem Fills.seq {R : sProp 𝕄} {S : Shape} {e : EltTy} {M : Memref sig .tc .vmem S e} {D D' : Set S.Idx} {W : S.Idx → Elt Ideal e} {p p' : Act Ideal}
    (h : Fills 𝒱 c bd E R M D W p) (h' : Fills 𝒱 c bd E R M D' W p') : Fills 𝒱 c bd E R M (D ∪ D') W (p >>= fun _ => p') := by
  intro Y
  show _ ⊢ wp frame (wpE (defs₀ (F := Ideal)) 𝒱 (c : Thread nD τ) bd) E (p >>= fun _ => p') _
  rw [wp_bind]
  refine (h Y).trans (wp_mono _ _ _ fun _ => ?_)
  iintro ⟨HR, ⟨%Y₁, %h₁, H⟩⟩
  have h2 := (h' Y₁).trans (wp_mono _ _ _ (Q' := fun _ => iprop(R ∗ ∃ Y', ⌜(∀ i ∈ D ∪ D', Y' i = W i) ∧ ∀ i, i ∉ D ∪ D' → Y' i = Y i⌝ ∗ Own c M Y')) fun _ => by
    iintro ⟨HR, ⟨%Y₂, %h₂, H⟩⟩
    isplitl [HR]; · iexact HR
    iexists Y₂; isplitr; swap
    · iexact H
    ipureintro
    refine ⟨fun i hi => ?_, fun i hi => ?_⟩
    · by_cases hi' : i ∈ D'
      · exact h₂.1 i hi'
      · rw [h₂.2 i hi']; exact h₁.1 i (hi.resolve_right hi')
    · rw [h₂.2 i fun hh => hi (Or.inr hh)]; exact h₁.2 i fun hh => hi (Or.inl hh))
  iapply h2
  isplitl [HR]; · iexact HR
  iexact H

/-- Four programs fill what each of them fills; -/
theorem Fills.four {R : sProp 𝕄} {S : Shape} {e : EltTy} {M : Memref sig .tc .vmem S e} {D : Fin 4 → Set S.Idx} {W : S.Idx → Elt Ideal e}
    {f : Fin 4 → Act Ideal} (h : ∀ n, Fills 𝒱 c bd E R M (D n) W (f n)) : Fills 𝒱 c bd E R M (⋃ n, D n) W (four f) := by
  have e : (⋃ n, D n) = D 0 ∪ (D 1 ∪ (D 2 ∪ D 3)) := by
    ext i; simp only [Set.mem_iUnion, Set.mem_union, Fin.exists_fin_succ, IsEmpty.exists_iff, or_false]; rfl
  rw [e]
  exact (h 0).seq ((h 1).seq ((h 2).seq (h 3)))

/-- and so do two. -/
theorem Fills.two {R : sProp 𝕄} {S : Shape} {e : EltTy} {M : Memref sig .tc .vmem S e} {D : Fin 2 → Set S.Idx} {W : S.Idx → Elt Ideal e}
    {f : Fin 2 → Act Ideal} (h : ∀ n, Fills 𝒱 c bd E R M (D n) W (f n)) : Fills 𝒱 c bd E R M (⋃ n, D n) W (two f) := by
  have e : (⋃ n, D n) = D 0 ∪ D 1 := by
    ext i; simp only [Set.mem_iUnion, Set.mem_union, Fin.exists_fin_two]
  rw [e]
  exact (h 0).seq (h 1)

/-- A load at the head of a program, of a buffer that the program keeps. -/
theorem Fills.load {T : sProp 𝕄} {S S' : Shape} {e e' : EltTy} {M : Memref sig .tc .vmem S e} {D : Set S.Idx} {W : S.Idx → Elt Ideal e}
    {M' : Memref sig .tc .vmem S' e'} {r : LoadRect S'} {hl : M'.view.LoadsAt r} {X : S'.Idx → Elt Ideal e'}
    {k : (r.shape.Idx → Elt Ideal e') → Act Ideal} (R : sProp 𝕄) (hR : R ⊣⊢ iprop(Own c M' X ∗ T))
    (h : Fills 𝒱 c bd E R M D W (k fun j => X (r.idx j))) :
    Fills 𝒱 c bd E R M D W (Prog.lift (TpuEff.load M' r hl) >>= k) := by
  intro Y
  refine BIBase.Entails.trans ?_ (load_rule 𝒱 bd E M' r hl X k _)
  refine (sep_mono_left hR.1).trans ?_
  iintro ⟨⟨H, HT⟩, HY⟩
  isplitl [H]; · iexact H
  iintro H
  iapply (h Y)
  isplitl [H HT]
  · iapply hR.2
    isplitl [H]; · iexact H
    iexact HT
  iexact HY

/-- A load of the filled buffer itself, whose value is not used. -/
theorem Fills.load_self {R : sProp 𝕄} {S : Shape} {e : EltTy} {M : Memref sig .tc .vmem S e} {D : Set S.Idx} {W : S.Idx → Elt Ideal e}
    {r : LoadRect S} {hl : M.view.LoadsAt r} {p : Act Ideal} (h : Fills 𝒱 c bd E R M D W p) :
    Fills 𝒱 c bd E R M D W (Prog.lift (TpuEff.load M r hl) >>= fun _ => p) := by
  intro Y
  refine BIBase.Entails.trans ?_ (load_rule 𝒱 bd E M r hl Y (fun _ => p) _)
  iintro ⟨HR, HY⟩
  isplitl [HY]; · iexact HY
  iintro HY
  iapply (h Y)
  isplitl [HR]; · iexact HR
  iexact HY

/-- The elements of a rectangle. -/
def Box {S : Shape} (off size : Fin S.rank → ℕ) : Set S.Idx := {i | ∀ a, off a ≤ (i a).val ∧ (i a).val < off a + size a}

/-- A store fills its rectangle with its payload. -/
theorem Fills.store {R : sProp 𝕄} {S : Shape} {e : EltTy} {M : Memref sig .tc .vmem S e} {W : S.Idx → Elt Ideal e}
    {off size : Fin S.rank → ℕ} {inb : ∀ a, off a + size a ≤ S.size a}
    {w : (Rect.unit off size inb).shape.Idx → Elt Ideal e} {hx : (M.access (Rect.unit off size inb)).Stores Finset.univ}
    {hm : Finset.univ = Finset.univ ∨ ∀ a, (Rect.unit off size inb).stride a = 1}
    (hw : ∀ i (h : ∀ a, off a ≤ (i a).val ∧ (i a).val < off a + size a), w (Rect.unitLocal (s := S) i h) = W i) :
    Fills 𝒱 c bd E R M (Box off size) W (Prog.lift (TpuEff.store M (Rect.unit off size inb) w Finset.univ hx hm)) := by
  intro Y
  refine BIBase.Entails.trans ?_ (store_rule 𝒱 bd E M off size inb w hx hm Y _)
  iintro ⟨HR, HY⟩
  isplitl [HY]; · iexact HY
  iintro HY
  isplitl [HR]; · iexact HR
  iexists _; isplitr; swap
  · iexact HY
  ipureintro
  refine ⟨fun i hi => ?_, fun i hi => ?_⟩
  · exact (dif_pos hi).trans (hw i hi)
  · exact dif_neg hi

end Cert.KernelIdeal.Value
-- ==== Proof.Payloads.lean ====
/-
What the vector expressions of the rolled region compute, one element at a time, over the extended reals.
-/
module

public import proofs.«01_k».proof.Proof.Rolled
public import Idealize.ShloMosaic.Lib.Pointwise

@[expose] public section

set_option maxRecDepth 16384

noncomputable section

namespace Cert.KernelIdeal.Value

open Idealize.ShloMosaic Idealize.SL.Sem
open Cert.KernelIdeal.Gen Cert.KernelIdeal.Rolled

/-- A scale is the integer scale times the decoded factor, at both places of its pair. -/
theorem scales_apply (d : Vec Ideal S1x1x128 .f32) (s : Vec Ideal S1x16x128 .i8) (i : Fin 16) (p : Fin 2) (l : Fin 128) :
    scales d s (ix3 i p l) = (((s (ix3 0 i l)).toInt : ℝ) : EReal) * d (ix3 0 0 l) := by
  unfold scales
  pointwise
  rw [ite_self]
  show ((((s (ix3 0 i l)).signExtend 32).toInt : ℝ) : EReal) * _ = _
  rw [BitVec.toInt_signExtend_of_le (by decide)]

/-- The words of a block, transposed. -/
theorem words_apply (w : Vec Ideal S128x128 .i32) (a b : Fin 128) :
    (shapeCast S128x128 (transpose S128x128 [1, 0] w transposes_S128x128_p1_0_S128x128) shapeCasts_S128x128_S128x128 : Vec Ideal S128x128 .i32) (ix2 a b) = w (ix2 b a) := by
  pointwise

/-- A weight is a code times its scale. -/
theorem weights_apply (cd : FVec Ideal S32x128 .bf16) (s : Vec Ideal S1x2x128 .bf16) (h : Fin 2) (r : Fin 16) (l : Fin 128) :
    weights cd s h (ix3 0 r l) = cd (ix2 ⟨16 * h.val + r.val, by omega⟩ l) * s (ix3 0 ⟨r.val % 2, by omega⟩ l) := by
  unfold weights scaleBlock
  pointwise
  simp only [dite_eq_ite, ite_self]
  rcases Nat.mod_two_eq_zero_or_one r.val with hr | hr
  · rw [if_pos hr]; congr 2; exact congrArg (ix3 0 · l) (Fin.ext hr.symm)
  · rw [if_neg (by omega)]; congr 2; exact congrArg (ix3 0 · l) (Fin.ext hr.symm)

/-- What a pair of column blocks adds, at one element. -/
theorem product_apply (w0 w1 : Vec Ideal S1x1024x128 .bf16) (acc : Vec Ideal S256x256 .f32) (x : Vec Ideal S256x1024 .bf16)
    (m : Fin 256) (j : Fin 256) :
    product w0 w1 acc x (ix2 m j) = acc (ix2 m j) + ∑ k : Fin 1024, x (ix2 m k) *
      (if h : j.val < 128 then w0 (ix3 0 k ⟨j.val, h⟩) else w1 (ix3 0 k ⟨j.val - 128, by omega⟩)) := by
  unfold product
  pointwise

end Cert.KernelIdeal.Value
-- ==== Proof.Codes.lean ====
/-
The integer side of the weights: the words the kernel forms out of the packed bytes, byte by byte, and the
signed code each byte holds.
-/
module

public import proofs.«01_k».proof.Proof.Rolled
public import Idealize.ShloMosaic.Lib.BitcastFour
public import Idealize.ShloMosaic.Lib.Pointwise

@[expose] public section

set_option maxRecDepth 16384

noncomputable section

namespace Cert.KernelIdeal.Value

open Idealize.ShloMosaic Idealize.SL.Sem
open Cert.KernelIdeal.Gen Cert.KernelIdeal.Rolled

/-! ## The code of two bytes -/

/-- The six-bit code that the low byte `b` (at the nibble of `half`) and the byte of high bits `hb` (at the pair of bits `t`)
    hold, less its offset 32. -/
def code (b hb : BitVec 8) (half : Fin 2) (t : Fin 4) : ℤ :=
  ((b >>> (4 * half.val)) &&& 15#8).toNat + 16 * ((hb >>> (2 * t.val)) &&& 3#8).toNat - 32

/-- The nibble of a byte, moved to bits 2 to 5. -/
def lowByte (b : BitVec 8) (half : Fin 2) : BitVec 8 :=
  match half with
  | 0 => (b <<< 2) &&& 60#8
  | 1 => (b >>> 2) &&& 60#8

/-- The pair of bits of a byte, its upper one flipped, moved to bits 6 and 7. -/
def topByte (hb : BitVec 8) (t : Fin 4) : BitVec 8 := ((hb ^^^ 170#8) <<< (6 - 2 * t.val)) &&& 192#8

theorem lowByte_eq (b : BitVec 8) (half : Fin 2) : lowByte b half = ((b >>> (4 * half.val)) &&& 15#8) <<< 2 := by
  revert b half; decide

theorem topByte_eq (hb : BitVec 8) (t : Fin 4) : topByte hb t = (((hb >>> (2 * t.val)) &&& 3#8) ^^^ 2#8) <<< 6 := by
  revert hb t; decide

theorem nibble_lt (b : BitVec 8) (s : Nat) : ((b >>> s) &&& 15#8).toNat < 16 := by
  rw [BitVec.toNat_and]; exact Nat.lt_of_le_of_lt Nat.and_le_right (by decide)

theorem crumb_lt (b : BitVec 8) (s : Nat) : ((b >>> s) &&& 3#8).toNat < 4 := by
  rw [BitVec.toNat_and]; exact Nat.lt_of_le_of_lt Nat.and_le_right (by decide)

theorem code_of_fields : ∀ (x : Fin 16) (y : Fin 4),
    (((BitVec.ofNat 8 x.val) <<< 2) ||| (((BitVec.ofNat 8 y.val) ^^^ 2#8) <<< 6)).toInt = 4 * ((x.val : ℤ) + 16 * (y.val : ℤ) - 32) := by
  decide

/-- The two parts joined are four times the code. -/
theorem byte_toInt (b hb : BitVec 8) (half : Fin 2) (t : Fin 4) :
    (lowByte b half ||| topByte hb t).toInt = 4 * code b hb half t := by
  have h := code_of_fields ⟨_, nibble_lt b (4 * half.val)⟩ ⟨_, crumb_lt hb (2 * t.val)⟩
  simp only [BitVec.ofNat_toNat, BitVec.setWidth_eq] at h
  rw [lowByte_eq, topByte_eq]; exact h

/-! ## Words, byte by byte -/

/-- Byte `i` of a word. -/
def byte (i : Fin 4) (w : BitVec 32) : BitVec 8 := w.extractLsb' (8 * i.val) 8

/-- The word of super-block `n` out of four words. -/
def blockWord (a0 a1 a2 a3 : BitVec 32) (n : Fin 4) : BitVec 32 :=
  match n with
  | 0 => (((a0 &&& 65535#32) ||| (a2 <<< 16)) &&& 16711935#32) ||| ((((a1 &&& 65535#32) ||| (a3 <<< 16)) <<< 8) &&& 4278255360#32)
  | 1 => ((((a0 &&& 65535#32) ||| (a2 <<< 16)) >>> 8) &&& 16711935#32) ||| (((a1 &&& 65535#32) ||| (a3 <<< 16)) &&& 4278255360#32)
  | 2 => (((a0 >>> 16) ||| (a2 &&& 4294901760#32)) &&& 16711935#32) ||| ((((a1 >>> 16) ||| (a3 &&& 4294901760#32)) <<< 8) &&& 4278255360#32)
  | 3 => ((((a0 >>> 16) ||| (a2 &&& 4294901760#32)) >>> 8) &&& 16711935#32) ||| (((a1 >>> 16) ||| (a3 &&& 4294901760#32)) &&& 4278255360#32)

set_option maxHeartbeats 4000000 in
/-- Its byte `i` is byte `n` of word `i`. -/
theorem byte_blockWord (a : Fin 4 → BitVec 32) (n i : Fin 4) :
    byte i (blockWord (a 0) (a 1) (a 2) (a 3) n) = byte n (a i) := by
  apply BitVec.eq_of_getLsbD_eq
  intro p hp
  unfold byte
  rw [BitVec.getLsbD_extractLsb', BitVec.getLsbD_extractLsb']
  fin_cases n <;> fin_cases i <;> interval_cases p <;>
    simp [blockWord, BitVec.getLsbD_and, BitVec.getLsbD_or, BitVec.getLsbD_shiftLeft, BitVec.getLsbD_ushiftRight]

/-- The low bits of a word's four codes. -/
def lowWord (v : BitVec 32) (half : Fin 2) : BitVec 32 :=
  match half with
  | 0 => (v <<< 2) &&& 1010580540#32
  | 1 => (v >>> 2) &&& 1010580540#32

set_option maxHeartbeats 4000000 in
theorem byte_lowWord (v : BitVec 32) (half : Fin 2) (i : Fin 4) : byte i (lowWord v half) = lowByte (byte i v) half := by
  apply BitVec.eq_of_getLsbD_eq
  intro p hp
  unfold byte
  rw [BitVec.getLsbD_extractLsb']
  fin_cases half <;> fin_cases i <;> interval_cases p <;>
    simp [lowWord, lowByte, BitVec.getLsbD_and, BitVec.getLsbD_shiftLeft, BitVec.getLsbD_ushiftRight, BitVec.getLsbD_extractLsb']

set_option maxHeartbeats 4000000 in
theorem byte_topWord (hb : BitVec 32) (t i : Fin 4) :
    byte i (((hb ^^^ 2863311530#32) <<< (6 - 2 * t.val)) &&& 3233857728#32) = topByte (byte i hb) t := by
  apply BitVec.eq_of_getLsbD_eq
  intro p hp
  unfold byte
  rw [BitVec.getLsbD_extractLsb']
  fin_cases t <;> fin_cases i <;> interval_cases p <;>
    simp [topByte, BitVec.getLsbD_and, BitVec.getLsbD_xor, BitVec.getLsbD_shiftLeft, BitVec.getLsbD_ushiftRight, BitVec.getLsbD_extractLsb']

theorem byte_or (i : Fin 4) (v w : BitVec 32) : byte i (v ||| w) = byte i v ||| byte i w := by
  unfold byte; exact BitVec.extractLsb'_or ..

/-! ## Vectors of words and of bytes -/

/-- Row `j` of words read as bytes: byte `j % 4` of word row `j / 4`. -/
theorem bitcast_bytes (x : IVec S8x128 32) (j : Fin 32) (l : Fin 128) :
    bitcast S32x128 8 x bitcasts_S8x128_w32_S32x128_w8 (ix2 j l) = byte ⟨j.val % 4, by omega⟩ (x (ix2 ⟨j.val / 4, by omega⟩ l)) := by
  apply BitVec.eq_of_getLsbD_eq
  intro p hp
  unfold byte
  rw [bitcast_getLsbD x _ _ p hp (by decide), BitVec.getLsbD_extractLsb']
  have hr : S32x128.row (ix2 j l) = j.val := rfl
  have e1 : (S32x128.row (ix2 j l) * 8 + p) / 32 = j.val / 4 := by rw [hr]; omega
  have e2 : (S32x128.row (ix2 j l) * 8 + p) % 32 = 8 * (j.val % 4) + p := by rw [hr]; omega
  rw [decide_eq_true hp, Bool.true_and, e2]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- Byte `i` of word row `w` of bytes read as words: byte row `4 w + i`. -/
theorem bitcast_words {R r n : Nat} (x : (⟨2, ![R, n]⟩ : Shape).Idx → BitVec 8)
    (h : (⟨2, ![R, n]⟩ : Shape).Bitcasts 8 ⟨2, ![r, n]⟩ 32) (w : Fin r) (l : Fin n) (i : Fin 4) (p : Fin R) (hp : p.val = 4 * w.val + i.val) :
    byte i (bitcast ⟨2, ![r, n]⟩ 32 x h (ix2 w l)) = x (ix2 p l) := by
  apply BitVec.eq_of_getLsbD_eq
  intro q hq
  unfold byte
  rw [BitVec.getLsbD_extractLsb', decide_eq_true hq, Bool.true_and, ix2_eq_valueIdx, ix2_eq_valueIdx,
    bitcast_8_32_getLsbD_ix2 x h w l (8 * i.val + q) (by omega) p (by omega)]
  congr 1
  omega

/-- The pair of bits that a half of quarter `q` reads. -/
def field (q : Fin 4) (half : Fin 2) : Fin 4 := ⟨2 * half.val + q.val / 2, by omega⟩

/-- The codes of a half: four times the code of the bytes they come from. -/
theorem codes_apply (a : Fin 4 → IVec S8x128 32) (hb : IVec S32x128 8) (q n : Fin 4) (half : Fin 2) (j : Fin 32) (l : Fin 128) :
    codes (F := Ideal) (blockWords (a 0) (a 1) (a 2) (a 3) n)
        (xori (bitcast S8x128 32 hb bitcasts_S32x128_w8_S8x128_w32) (broadcast S8x128 2863311530#32)) q half (ix2 j l)
      = (((4 * code (byte n (a ⟨j.val % 4, by omega⟩ (ix2 ⟨j.val / 4, by omega⟩ l))) (hb (ix2 j l)) half (field q half) : ℤ) : ℝ) : EReal) := by
  have key : bitcast S32x128 8
      (ori (lowBits (blockWords (a 0) (a 1) (a 2) (a 3) n) half)
        (andi (shli (xori (bitcast S8x128 32 hb bitcasts_S32x128_w8_S8x128_w32) (broadcast S8x128 2863311530#32))
          (broadcast S8x128 (topShift q half))) (broadcast S8x128 3233857728#32))) bitcasts_S8x128_w32_S32x128_w8 (ix2 j l)
      = lowByte (byte n (a ⟨j.val % 4, by omega⟩ (ix2 ⟨j.val / 4, by omega⟩ l))) half ||| topByte (hb (ix2 j l)) (field q half) := by
    rw [bitcast_bytes]
    have h1 : (lowBits (blockWords (a 0) (a 1) (a 2) (a 3) n) half) (ix2 ⟨j.val / 4, by omega⟩ l)
        = lowWord (blockWord (a 0 (ix2 ⟨j.val / 4, by omega⟩ l)) (a 1 (ix2 ⟨j.val / 4, by omega⟩ l)) (a 2 (ix2 ⟨j.val / 4, by omega⟩ l)) (a 3 (ix2 ⟨j.val / 4, by omega⟩ l)) n) half := by
      fin_cases half <;> fin_cases n <;> rfl
    have h2 : (andi (shli (xori (bitcast S8x128 32 hb bitcasts_S32x128_w8_S8x128_w32) (broadcast S8x128 2863311530#32))
          (broadcast S8x128 (topShift q half))) (broadcast S8x128 3233857728#32)) (ix2 ⟨j.val / 4, by omega⟩ l)
        = ((bitcast S8x128 32 hb bitcasts_S32x128_w8_S8x128_w32 (ix2 ⟨j.val / 4, by omega⟩ l) ^^^ 2863311530#32) <<< (6 - 2 * (field q half).val)) &&& 3233857728#32 := by
      fin_cases q <;> fin_cases half <;> rfl
    rw [show ∀ u v : IVec S8x128 32, ori u v (ix2 ⟨j.val / 4, by omega⟩ l) = u (ix2 ⟨j.val / 4, by omega⟩ l) ||| v (ix2 ⟨j.val / 4, by omega⟩ l) from fun _ _ => rfl,
      h1, h2, byte_or, byte_lowWord, byte_topWord,
      byte_blockWord (fun i => a i (ix2 ⟨j.val / 4, by omega⟩ l)) n ⟨j.val % 4, by omega⟩,
      bitcast_words hb bitcasts_S32x128_w8_S8x128_w32 ⟨j.val / 4, by omega⟩ l ⟨j.val % 4, by omega⟩ j (by show j.val = 4 * (j.val / 4) + j.val % 4; omega)]
  unfold codes
  show ((((_ : BitVec 8).toInt : ℝ)) : EReal) = _
  rw [key, byte_toInt]

end Cert.KernelIdeal.Value
-- ==== Proof.Units.lean ====
/-
What the programs of one group leave in the scratch buffers: the scales of the group's super-blocks, the words of a
column block, and the weights of the group.
-/
module

public import proofs.«01_k».proof.Proof.Triples
public import proofs.«01_k».proof.Proof.Payloads
public import proofs.«01_k».proof.Proof.Codes

@[expose] public section

set_option maxRecDepth 16384

noncomputable section

namespace Cert.KernelIdeal.Value

open Cert.KernelIdeal Cert.KernelIdeal.Gen Cert.KernelIdeal.Rolled
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-! ## Offsets in closed form -/

theorem trip_lt (k : Fin k0_t1_loop.trips) : k.val < 10 := Nat.lt_of_lt_of_le k.isLt k0_t1_abs.2.1

theorem offD_eq (k : Fin k0_t1_loop.trips) (c n : Fin 4) : offD k c n = ![c.val, 4 * k.val + n.val, 0] := by
  fin_cases c
  exacts [k0_off2_eq k n, k0_off7_eq k n, k0_off11_eq k n, k0_off15_eq k n]

theorem offS_eq (k : Fin k0_t1_loop.trips) (c n : Fin 4) : offS k c n = ![4 * k.val + n.val, 0, 128 * c.val] := by
  fin_cases c
  exacts [k0_off3_eq k n, k0_off8_eq k n, k0_off12_eq k n, k0_off16_eq k n]

theorem offH_eq (k : Fin k0_t1_loop.trips) (c q n : Fin 4) : offH k c q n = ![4 * k.val + n.val, 32 * (q.val % 2), 128 * c.val] := by
  fin_cases c <;> fin_cases q
  exacts [k0_off5_eq k n, k0_off6_eq k n, k0_off5_eq k n, k0_off6_eq k n,
    k0_off9_eq k n, k0_off10_eq k n, k0_off9_eq k n, k0_off10_eq k n,
    k0_off13_eq k n, k0_off14_eq k n, k0_off13_eq k n, k0_off14_eq k n,
    k0_off17_eq k n, k0_off18_eq k n, k0_off17_eq k n, k0_off18_eq k n]

/-! ## Indices of loaded and stored rectangles -/

/-- The position a load of a rectangle of rank three reads. -/
theorem idx3 {A B C : Nat} {off size : Fin 3 → Nat} (inb : ∀ a, off a + size a ≤ (⟨3, ![A, B, C]⟩ : Shape).size a)
    (j : (Rect.unit (s := ⟨3, ![A, B, C]⟩) off size inb).toLoadRect.shape.Idx) (x : Fin A) (y : Fin B) (z : Fin C)
    (h0 : off 0 + (j 0).val = x.val) (h1 : off 1 + (j 1).val = y.val) (h2 : off 2 + (j 2).val = z.val) :
    (Rect.unit (s := ⟨3, ![A, B, C]⟩) off size inb).toLoadRect.idx j = ix3 x y z := by
  funext a
  match a with
  | ⟨0, _⟩ => exact Fin.ext (by show off 0 + 1 * (j 0).val = x.val; omega)
  | ⟨1, _⟩ => exact Fin.ext (by show off 1 + 1 * (j 1).val = y.val; omega)
  | ⟨2, _⟩ => exact Fin.ext (by show off 2 + 1 * (j 2).val = z.val; omega)

/-- The position a strided load of rank two reads. -/
theorem idx2 {A B : Nat} (r : LoadRect ⟨2, ![A, B]⟩) (j : r.shape.Idx) (x : Fin A) (y : Fin B)
    (h0 : r.off 0 + r.stride 0 * (j 0).val = x.val) (h1 : r.off 1 + r.stride 1 * (j 1).val = y.val) :
    r.idx j = ix2 x y := by
  funext a
  match a with
  | ⟨0, _⟩ => exact Fin.ext h0
  | ⟨1, _⟩ => exact Fin.ext h1

/-! ## The scales of a group -/

/-- The scale of row `r` of the group's sixty-four and of column `o`: an integer scale times a decoded factor. -/
def scaleAt (X4 : S40x16x512.Idx → BitVec 8) (X10 : S4x40x128.Idx → EReal) (k : Fin 10) (r : Fin 64) (o : Fin 512) : EReal :=
  (((X4 (ix3 ⟨4 * k.val + r.val / 16, by omega⟩ ⟨r.val % 16, by omega⟩ o)).toInt : ℝ) : EReal)
    * X10 (ix3 ⟨o.val / 128, by omega⟩ ⟨4 * k.val + r.val / 16, by omega⟩ ⟨o.val % 128, by omega⟩)

/-- The group's number. -/
def grp (k : Fin k0_t1_loop.trips) : Fin 10 := ⟨k.val, trip_lt k⟩

variable {𝒱 : Variants} {c : Dev nD} {bd : Option 𝒱.V} {E : Set ℕ}
variable (arg1 : Memref sig .tc .vmem S256x10240 .bf16) (arg3 : Memref sig .tc .vmem S40x64x512 .i8) (arg4 : Memref sig .tc .vmem S40x16x512 .i8)
  (arg8 : Memref sig .tc .vmem S5120x128 .i32) (arg9 : Memref sig .tc .vmem S128x128 .i32) (arg10 : Memref sig .tc .vmem S4x40x128 .f32)
  (arg11 : Memref sig .tc .vmem S64x2x512 .bf16) (harg11 : arg11.IsWhole) (arg12 : Memref sig .tc .vmem S4x1024x128 .bf16) (harg12 : arg12.IsWhole)
  (arg13 : Memref sig .tc .vmem S256x512 .f32) (k : Fin k0_t1_loop.trips)
  (X1 : S256x10240.Idx → EReal) (X3 : S40x64x512.Idx → BitVec 8) (X4 : S40x16x512.Idx → BitVec 8) (X8 : S5120x128.Idx → BitVec 32) (X10 : S4x40x128.Idx → EReal)

/-- A store of rank three fills its rectangle, checked coordinate by coordinate. -/
theorem Fills.store3 {A B C a b d : Nat} {e : EltTy} {R : sProp 𝕄} {M : Memref sig .tc .vmem ⟨3, ![A, B, C]⟩ e} {W : (⟨3, ![A, B, C]⟩ : Shape).Idx → Elt Ideal e}
    {off : Fin 3 → Nat} {inb : ∀ x, off x + (![a, b, d] : Fin 3 → Nat) x ≤ (⟨3, ![A, B, C]⟩ : Shape).size x}
    {w : (Rect.unit (s := ⟨3, ![A, B, C]⟩) off ![a, b, d] inb).shape.Idx → Elt Ideal e} {hx : (M.access (Rect.unit off ![a, b, d] inb)).Stores Finset.univ}
    {hm : Finset.univ = Finset.univ ∨ ∀ x, (Rect.unit (s := ⟨3, ![A, B, C]⟩) off ![a, b, d] inb).stride x = 1}
    (hw : ∀ (x : Fin A) (y : Fin B) (z : Fin C) (p : Fin a) (q : Fin b) (r : Fin d), x.val = off 0 + p.val → y.val = off 1 + q.val → z.val = off 2 + r.val →
      w (ix3 p q r) = W (ix3 x y z)) :
    Fills 𝒱 c bd E R M (Box off ![a, b, d]) W (Prog.lift (TpuEff.store M (Rect.unit off ![a, b, d] inb) w Finset.univ hx hm)) := by
  refine Fills.store fun i h => ?_
  have h0 : off 0 ≤ (i 0).val ∧ (i 0).val < off 0 + a := h 0
  have h1 : off 1 ≤ (i 1).val ∧ (i 1).val < off 1 + b := h 1
  have h2 : off 2 ≤ (i 2).val ∧ (i 2).val < off 2 + d := h 2
  have e := hw (i 0) (i 1) (i 2) ⟨(i 0).val - off 0, by omega⟩ ⟨(i 1).val - off 1, by omega⟩ ⟨(i 2).val - off 2, by omega⟩
    (by dsimp only; omega) (by dsimp only; omega) (by dsimp only; omega)
  refine (congrArg w ?_).trans (e.trans (congrArg W (eq_ix3 i).symm))
  funext t
  match t with
  | ⟨0, _⟩ => rfl
  | ⟨1, _⟩ => rfl
  | ⟨2, _⟩ => rfl

/-- The scales of one super-block fill their block of the scale scratch. -/
theorem scaleStep_fills (cb n : Fin 4) :
    Fills 𝒱 c bd E iprop(Own c arg10 X10 ∗ Own c arg4 X4) arg11 (Box (cornerS cb n) S16x2x128.size)
      (fun i => scaleAt X4 X10 (grp k) (i 0) (i 2)) (scaleStep arg4 arg10 arg11 harg11 k cb n) := by
  unfold scaleStep
  refine Fills.load (M' := arg10) (X := X10) _ .rfl ?_
  refine Fills.load (M' := arg4) (X := X4) _ ⟨sep_comm, sep_comm⟩ ?_
  refine Fills.load_self (Fills.store3 fun x y z p q r hx hy hz => ?_)
  have hk := trip_lt k
  replace hx : x.val = 16 * n.val + p.val := hx
  replace hz : z.val = 128 * cb.val + r.val := hz
  refine (scales_apply _ _ _ _ _).trans ?_
  show _ = scaleAt X4 X10 (grp k) x z
  unfold scaleAt
  congr 1
  · congr 3
    refine congrArg X4 (idx3 _ _ _ _ _ ?_ ?_ ?_)
    · show offS k cb n 0 + 0 = 4 * k.val + x.val / 16; rw [offS_eq]; show 4 * k.val + n.val + 0 = 4 * k.val + x.val / 16; omega
    · show offS k cb n 1 + p.val = x.val % 16; rw [offS_eq]; show 0 + p.val = x.val % 16; omega
    · show offS k cb n 2 + r.val = z.val; rw [offS_eq]; show 128 * cb.val + r.val = z.val; omega
  · refine congrArg X10 (idx3 _ _ _ _ _ ?_ ?_ ?_)
    · show offD k cb n 0 + 0 = z.val / 128; rw [offD_eq]; show cb.val + 0 = z.val / 128; omega
    · show offD k cb n 1 + 0 = 4 * k.val + x.val / 16; rw [offD_eq]; show 4 * k.val + n.val + 0 = 4 * k.val + x.val / 16; omega
    · show offD k cb n 2 + r.val = z.val % 128; rw [offD_eq]; show 0 + r.val = z.val % 128; omega

/-! ## The words of a column block -/

/-- The transposed words of column block `cb` that belong to the group. -/
def wordAt (X8 : S5120x128.Idx → BitVec 32) (k : Fin 10) (cb : Fin 4) (p l : Fin 128) : BitVec 32 :=
  X8 (ix2 ⟨1280 * cb.val + k.val + 10 * l.val, by omega⟩ p)

/-- The words of a column block fill their scratch. -/
theorem wordStep_fills (cb : Fin 4) :
    Fills 𝒱 c bd E iprop(Own c arg8 X8) arg9 (Box ![0, 0] S128x128.size) (fun i => wordAt X8 (grp k) cb (i 0) (i 1)) (wordStep (F := Ideal) arg8 arg9 k cb) := by
  unfold wordStep
  refine Fills.load (M' := arg8) (X := X8) (T := iprop(emp)) _ sep_emp.symm ?_
  refine Fills.load_self (Fills.store fun i h => ?_)
  have hk := trip_lt k
  refine (congrArg (shapeCast S128x128 _ _) (?_ : Rect.unitLocal (s := S128x128) i h = ix2 (i 0 : Fin 128) (i 1 : Fin 128))).trans ((words_apply _ _ _).trans ?_)
  · funext t
    match t with
    | ⟨0, _⟩ => rfl
    | ⟨1, _⟩ => rfl
  unfold wordAt
  refine congrArg X8 (idx2 _ _ _ _ ?_ ?_)
  · show k0_off4 k (BitVec.ofNat 32 (1280 * cb.val)) 0 + 10 * (i 1).val = 1280 * cb.val + k.val + 10 * (i 1).val
    rw [k0_off4_eq]; rfl
  · show k0_off4 k (BitVec.ofNat 32 (1280 * cb.val)) 1 + 1 * (i 0).val = (i 0).val
    rw [k0_off4_eq]; show 0 + 1 * _ = _; omega

/-! ## The weights of a group -/

/-- Four times the code of a weight, told by where its bits lie: byte `n` of the word of row `p` and lane `l`, and the pair of bits
    `t` of the byte of high bits of row `p'`. -/
def codeAt (X3 : S40x64x512.Idx → BitVec 8) (X8 : S5120x128.Idx → BitVec 32) (k : Fin 10) (cb : Fin 4) (l : Fin 128)
    (n : Fin 4) (p : Fin 128) (p' : Fin 64) (half : Fin 2) (t : Fin 4) : EReal :=
  (((4 * code (byte n (wordAt X8 k cb p l))
      (X3 (ix3 ⟨4 * k.val + n.val, by omega⟩ p' ⟨128 * cb.val + l.val, by omega⟩)) half t : ℤ) : ℝ) : EReal)

/-- The weight of row `r` of the group and lane `l` of column block `cb`: four times the code, times the scale. -/
def weightAt (X3 : S40x64x512.Idx → BitVec 8) (X4 : S40x16x512.Idx → BitVec 8) (X8 : S5120x128.Idx → BitVec 32) (X10 : S4x40x128.Idx → EReal)
    (k : Fin 10) (cb : Fin 4) (r : Fin 1024) (l : Fin 128) : EReal :=
  codeAt X3 X8 k cb l ⟨r.val / 256, by omega⟩ ⟨r.val % 128, by omega⟩ ⟨r.val % 64, by omega⟩ ⟨r.val / 128 % 2, by omega⟩ ⟨r.val / 64 % 4, by omega⟩
    * scaleAt X4 X10 k ⟨r.val / 16, by omega⟩ ⟨128 * cb.val + l.val, by omega⟩

variable (X11 : S64x2x512.Idx → EReal)

/-- Sixteen rows of weights fill their rows of the weight scratch. -/
theorem weightStep_fills (R T : sProp 𝕄) (hR : R ⊣⊢ iprop(Own c arg11 X11 ∗ T)) (cb q n : Fin 4) (half : Fin 2) (cd : FVec Ideal S32x128 .bf16) (h : Fin 2)
    (h11 : ∀ (x : Fin 64) (y : Fin 2) (z : Fin 512), 128 * cb.val ≤ z.val → z.val < 128 * cb.val + 128 → X11 (ix3 x y z) = scaleAt X4 X10 (grp k) x z)
    (hcd : ∀ (j : Fin 32) (l : Fin 128), cd (ix2 j l) =
      codeAt X3 X8 (grp k) cb l n ⟨32 * q.val + j.val, by omega⟩ ⟨32 * (q.val % 2) + j.val, by omega⟩ half (field q half)) :
    Fills 𝒱 c bd E R arg12 (Box ![cb.val, rowW q n half h, 0] S1x16x128.size)
      (fun i => weightAt X3 X4 X8 X10 (grp k) (i 0) (i 1) (i 2)) (weightStep arg11 arg12 harg12 cb q n half cd h) := by
  unfold weightStep
  refine Fills.load (M' := arg11) (X := X11) _ hR ?_
  refine Fills.load_self (Fills.store3 fun x y z p j l hx hy hz => ?_)
  replace hx : x.val = cb.val + p.val := hx
  replace hy : y.val = n.val * 256 + half.val * 128 + q.val * 32 + h.val * 16 + j.val := hy
  replace hz : z.val = 0 + l.val := hz
  obtain rfl : x = cb := Fin.ext (by omega)
  obtain rfl : z = l := Fin.ext (by omega)
  obtain rfl : p = 0 := Fin.ext (by omega)
  refine (weights_apply _ _ _ _ _).trans ?_
  show _ = weightAt X3 X4 X8 X10 (grp k) x y z
  unfold weightAt
  rw [hcd]
  congr 1
  · congr 1 <;> refine Fin.ext ?_
    · show n.val = y.val / 256; omega
    · show 32 * q.val + (16 * h.val + j.val) = y.val % 128; omega
    · show 32 * (q.val % 2) + (16 * h.val + j.val) = y.val % 64; omega
    · show half.val = y.val / 128 % 2; omega
    · show 2 * half.val + q.val / 2 = y.val / 64 % 4; omega
  · refine (congrArg X11 (idx3 _ _ (⟨y.val / 16, by omega⟩ : Fin 64) (⟨j.val % 2, by omega⟩ : Fin 2) (⟨128 * x.val + z.val, by omega⟩ : Fin 512) ?_ ?_ ?_)).trans (h11 _ _ _ ?_ ?_)
    · show n.val * 16 + half.val * 8 + q.val * 2 + h.val + 0 = y.val / 16; omega
    · show 0 + j.val % 2 = j.val % 2; omega
    · rfl
    · show _ ≤ 128 * x.val + z.val; omega
    · show 128 * x.val + z.val < _; omega

/-- The weights of one super-block in one quarter. -/
theorem blockStep_fills (R T T' : sProp 𝕄) (hR : R ⊣⊢ iprop(Own c arg11 X11 ∗ T)) (hR' : R ⊣⊢ iprop(Own c arg3 X3 ∗ T')) (cb q n : Fin 4)
    (a : Fin 4 → IVec S8x128 32)
    (ha : ∀ (r : Fin 4) (w : Fin 8) (l : Fin 128), a r (ix2 w l) = wordAt X8 (grp k) cb ⟨32 * q.val + r.val + 4 * w.val, by omega⟩ l)
    (h11 : ∀ (x : Fin 64) (y : Fin 2) (z : Fin 512), 128 * cb.val ≤ z.val → z.val < 128 * cb.val + 128 → X11 (ix3 x y z) = scaleAt X4 X10 (grp k) x z) :
    Fills 𝒱 c bd E R arg12 (⋃ half : Fin 2, ⋃ h : Fin 2, Box ![cb.val, rowW q n half h, 0] S1x16x128.size)
      (fun i => weightAt X3 X4 X8 X10 (grp k) (i 0) (i 1) (i 2)) (blockStep arg3 arg11 arg12 harg12 k cb q (a 0) (a 1) (a 2) (a 3) n) := by
  unfold blockStep
  refine Fills.load (M' := arg3) (X := X3) _ hR' ?_
  refine Fills.two fun half => Fills.two fun h => ?_
  refine weightStep_fills arg11 arg12 harg12 k X3 X4 X8 X10 X11 R T hR cb q n half _ h h11 fun j l => ?_
  refine (codes_apply a _ q n half j l).trans ?_
  have e1 : a ⟨j.val % 4, by omega⟩ (ix2 ⟨j.val / 4, by omega⟩ l) = wordAt X8 (grp k) cb ⟨32 * q.val + j.val, by omega⟩ l :=
    (ha _ _ _).trans (congrArg (wordAt X8 (grp k) cb · l) (Fin.ext (by show 32 * q.val + j.val % 4 + 4 * (j.val / 4) = 32 * q.val + j.val; omega)))
  rw [e1]
  unfold codeAt
  congr 5
  have e2 : ∀ (v : S1x32x128.Idx → BitVec 8), (shapeCast S32x128 v shapeCasts_S1x32x128_S32x128) (ix2 j l) = v (ix3 (0 : Fin 1) j l) := by
    intro v; pointwise
  refine (e2 _).trans (congrArg X3 (idx3 _ _ _ _ _ ?_ ?_ ?_))
  · show offH k cb q n 0 + 0 = 4 * k.val + n.val; rw [offH_eq]; rfl
  · show offH k cb q n 1 + j.val = 32 * (q.val % 2) + j.val; rw [offH_eq]; rfl
  · show offH k cb q n 2 + l.val = 128 * cb.val + l.val; rw [offH_eq]; rfl

/-- The weights of one quarter of a column block. -/
theorem quarterStep_fills (X9 : S128x128.Idx → BitVec 32) (cb q : Fin 4)
    (h9 : ∀ (p l : Fin 128), X9 (ix2 p l) = wordAt X8 (grp k) cb p l)
    (h11 : ∀ (x : Fin 64) (y : Fin 2) (z : Fin 512), 128 * cb.val ≤ z.val → z.val < 128 * cb.val + 128 → X11 (ix3 x y z) = scaleAt X4 X10 (grp k) x z) :
    Fills 𝒱 c bd E iprop(Own c arg9 X9 ∗ Own c arg3 X3 ∗ Own c arg11 X11) arg12
      (⋃ n : Fin 4, ⋃ half : Fin 2, ⋃ h : Fin 2, Box ![cb.val, rowW q n half h, 0] S1x16x128.size)
      (fun i => weightAt X3 X4 X8 X10 (grp k) (i 0) (i 1) (i 2)) (quarterStep arg3 arg9 arg11 arg12 harg12 k cb q) := by
  unfold quarterStep
  refine Fills.load (M' := arg9) (X := X9) _ .rfl ?_
  refine Fills.load (M' := arg9) (X := X9) _ .rfl ?_
  refine Fills.load (M' := arg9) (X := X9) _ .rfl ?_
  refine Fills.load (M' := arg9) (X := X9) _ .rfl ?_
  refine Fills.four fun n => ?_
  refine blockStep_fills arg3 arg11 arg12 harg12 k X3 X4 X8 X10 X11 _ iprop(Own c arg9 X9 ∗ Own c arg3 X3) iprop(Own c arg9 X9 ∗ Own c arg11 X11) ?_ ?_ cb q n
    (fun r j => X9 ((⟨![32 * q.val + r.val, 0], S8x128.size, ![4, 1], quarter_inb q r⟩ : LoadRect S128x128).idx j)) (fun r w l => ?_) h11
  · exact ⟨by iintro ⟨H1, H2, H3⟩; isplitl [H3]; · iexact H3
              isplitl [H1]; · iexact H1
              iexact H2,
           by iintro ⟨H3, H1, H2⟩; isplitl [H1]; · iexact H1
              isplitl [H2]; · iexact H2
              iexact H3⟩
  · exact ⟨by iintro ⟨H1, H2, H3⟩; isplitl [H2]; · iexact H2
              isplitl [H1]; · iexact H1
              iexact H3,
           by iintro ⟨H2, H1, H3⟩; isplitl [H1]; · iexact H1
              isplitl [H2]; · iexact H2
              iexact H3⟩
  · refine (congrArg X9 (idx2 _ _ (⟨32 * q.val + r.val + 4 * w.val, by omega⟩ : Fin 128) l ?_ ?_)).trans (h9 _ _)
    · rfl
    · show 0 + 1 * l.val = l.val; omega

end Cert.KernelIdeal.Value
-- ==== Proof.Region.lean ====
/-
What one group of the kernel's loop does: the weights of the group fill the weight scratch, and their products with
the group's slice of the activations are added to the accumulator.
-/
module

public import proofs.«01_k».proof.Proof.Units

@[expose] public section

set_option maxRecDepth 16384

noncomputable section

namespace Cert.KernelIdeal.Value

open Cert.KernelIdeal Cert.KernelIdeal.Gen Cert.KernelIdeal.Rolled
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

variable {𝒱 : Variants} {c : Dev nD} {bd : Option 𝒱.V} {E : Set ℕ}

/-- One program, then the next. -/
theorem runs_bind {α β : Type} {P : sProp 𝕄} {Q' : β → sProp 𝕄} (p : Prog (TpuEff nD τ sig (Elt Ideal) Λ₀ .tc) α) (k : α → Prog (TpuEff nD τ sig (Elt Ideal) Λ₀ .tc) β)
    (Q : α → sProp 𝕄) (h : P ⊢ Runs 𝒱 c bd E p Q) (hk : ∀ a, Q a ⊢ Runs 𝒱 c bd E (k a) Q') : P ⊢ Runs 𝒱 c bd E (p >>= k) Q' := by
  show _ ⊢ wp frame (wpE (defs₀ (F := Ideal)) 𝒱 (c : Thread nD τ) bd) E (p >>= k) _
  rw [wp_bind]
  exact h.trans (wp_mono _ _ _ hk)

/-- What is not touched by a program that fills is kept. -/
theorem Fills.keep {R T : sProp 𝕄} {S : Shape} {e : EltTy} {M : Memref sig .tc .vmem S e} {D : Set S.Idx} {W : S.Idx → Elt Ideal e} {p : Act Ideal}
    (h : Fills 𝒱 c bd E R M D W p) (Y : S.Idx → Elt Ideal e) :
    iprop((R ∗ Own c M Y) ∗ T) ⊢ Runs 𝒱 c bd E p (fun _ => iprop((R ∗ ∃ Y', ⌜(∀ i ∈ D, Y' i = W i) ∧ ∀ i, i ∉ D → Y' i = Y i⌝ ∗ Own c M Y') ∗ T)) :=
  (sep_mono_left (h Y)).trans (wp_frame_r frame (wpE (defs₀ (F := Ideal)) 𝒱 (c : Thread nD τ) bd) E)

variable (arg1 : Memref sig .tc .vmem S256x10240 .bf16) (arg3 : Memref sig .tc .vmem S40x64x512 .i8) (arg4 : Memref sig .tc .vmem S40x16x512 .i8)
  (arg8 : Memref sig .tc .vmem S5120x128 .i32) (arg9 : Memref sig .tc .vmem S128x128 .i32) (arg10 : Memref sig .tc .vmem S4x40x128 .f32)
  (arg11 : Memref sig .tc .vmem S64x2x512 .bf16) (harg11 : arg11.IsWhole) (arg12 : Memref sig .tc .vmem S4x1024x128 .bf16) (harg12 : arg12.IsWhole)
  (arg13 : Memref sig .tc .vmem S256x512 .f32) (k : Fin k0_t1_loop.trips)
  (X1 : S256x10240.Idx → EReal) (X3 : S40x64x512.Idx → BitVec 8) (X4 : S40x16x512.Idx → BitVec 8) (X8 : S5120x128.Idx → BitVec 32) (X10 : S4x40x128.Idx → EReal)

/-- The four blocks of scales of a column block hold every row. -/
theorem mem_corners (cb : Fin 4) (x : Fin 64) (y : Fin 2) (z : Fin 512) (h1 : 128 * cb.val ≤ z.val) (h2 : z.val < 128 * cb.val + 128) :
    (ix3 x y z : S64x2x512.Idx) ∈ ⋃ n : Fin 4, Box (S := S64x2x512) (cornerS cb n) S16x2x128.size := by
  refine Set.mem_iUnion.2 ⟨⟨x.val / 16, by omega⟩, fun a => ?_⟩
  match a with
  | ⟨0, _⟩ => show 16 * (x.val / 16) ≤ x.val ∧ x.val < 16 * (x.val / 16) + 16; omega
  | ⟨1, _⟩ => show 0 ≤ y.val ∧ y.val < 0 + 2; omega
  | ⟨2, _⟩ => show 128 * cb.val ≤ z.val ∧ z.val < 128 * cb.val + 128; omega

/-- The blocks of sixteen rows of a column block hold all of its weights, and no others. -/
theorem rows_eq (cb : Fin 4) :
    (⋃ q : Fin 4, ⋃ n : Fin 4, ⋃ half : Fin 2, ⋃ h : Fin 2, Box (S := S4x1024x128) ![cb.val, rowW q n half h, 0] S1x16x128.size) = {i | (i 0).val = cb.val} := by
  ext i
  simp only [Set.mem_iUnion, Set.mem_setOf_eq]
  constructor
  · rintro ⟨q, n, half, h, hi⟩
    have h0 : cb.val ≤ (i 0).val ∧ (i 0).val < cb.val + 1 := hi 0
    omega
  · intro hi
    have hy : (i 1).val < 1024 := (i 1).isLt
    have hz : (i 2).val < 128 := (i 2).isLt
    refine ⟨⟨(i 1).val / 32 % 4, by omega⟩, ⟨(i 1).val / 256, by omega⟩, ⟨(i 1).val / 128 % 2, by omega⟩, ⟨(i 1).val / 16 % 2, by omega⟩, fun a => ?_⟩
    match a with
    | ⟨0, _⟩ => show cb.val ≤ (i 0).val ∧ (i 0).val < cb.val + 1; omega
    | ⟨1, _⟩ =>
      show (i 1).val / 256 * 256 + (i 1).val / 128 % 2 * 128 + (i 1).val / 32 % 4 * 32 + (i 1).val / 16 % 2 * 16 ≤ (i 1).val
        ∧ (i 1).val < (i 1).val / 256 * 256 + (i 1).val / 128 % 2 * 128 + (i 1).val / 32 % 4 * 32 + (i 1).val / 16 % 2 * 16 + 16
      omega
    | ⟨2, _⟩ => show 0 ≤ (i 2).val ∧ (i 2).val < 0 + 128; omega

/-- What a group reads and keeps. -/
abbrev Kept (c : Dev nD) : sProp 𝕄 := iprop(Own c arg10 X10 ∗ Own c arg4 X4 ∗ Own c arg8 X8 ∗ Own c arg3 X3)

/-- Scratch, at any contents. -/
abbrev Any (c : Dev nD) {S : Shape} {e : EltTy} (M : Memref sig .tc .vmem S e) : sProp 𝕄 := iprop(∃ Y, Own c M Y)

/-- The weights of a column block fill its slab of the weight scratch. -/
theorem columnStep_fills (cb : Fin 4) :
    Fills 𝒱 c bd E iprop(Kept arg3 arg4 arg8 arg10 X3 X4 X8 X10 c ∗ Any c arg9 ∗ Any c arg11) arg12 {i | (i 0).val = cb.val}
      (fun i => weightAt X3 X4 X8 X10 (grp k) (i 0) (i 1) (i 2)) (columnStep arg3 arg4 arg8 arg9 arg10 arg11 harg11 arg12 harg12 k cb) := by
  intro Y
  unfold columnStep
  refine runs_bind _ _ (fun _ => iprop(∃ Y11 : S64x2x512.Idx → EReal, ⌜∀ (x : Fin 64) (y : Fin 2) (z : Fin 512), 128 * cb.val ≤ z.val → z.val < 128 * cb.val + 128 → Y11 (ix3 x y z) = scaleAt X4 X10 (grp k) x z⌝
    ∗ Own c arg11 Y11 ∗ Kept arg3 arg4 arg8 arg10 X3 X4 X8 X10 c ∗ Any c arg9 ∗ Own c arg12 Y)) ?_ fun _ => ?_
  · iintro ⟨⟨⟨H10, H4, H8, H3⟩, H9, ⟨%Y11, H11⟩⟩, H12⟩
    have hs := (Fills.keep (T := iprop(Own c arg8 X8 ∗ Own c arg3 X3 ∗ Any c arg9 ∗ Own c arg12 Y))
      (Fills.four fun n => scaleStep_fills (𝒱 := 𝒱) (c := c) (bd := bd) (E := E) arg4 arg10 arg11 harg11 k X4 X10 cb n) Y11).trans
      (wp_mono _ _ _ (Q' := fun _ => iprop(∃ Y11 : S64x2x512.Idx → EReal, ⌜∀ (x : Fin 64) (y : Fin 2) (z : Fin 512), 128 * cb.val ≤ z.val → z.val < 128 * cb.val + 128 → Y11 (ix3 x y z) = scaleAt X4 X10 (grp k) x z⌝
        ∗ Own c arg11 Y11 ∗ Kept arg3 arg4 arg8 arg10 X3 X4 X8 X10 c ∗ Any c arg9 ∗ Own c arg12 Y)) fun _ => by
        iintro ⟨⟨⟨H10, H4⟩, ⟨%Y', %hY, H11⟩⟩, H8, H3, H9, H12⟩
        iexists Y'
        isplitr
        · ipureintro; intro x y z h1 h2; exact hY.1 _ (mem_corners cb x y z h1 h2)
        isplitl [H11]; · iexact H11
        isplitl [H10 H4 H8 H3]
        · isplitl [H10]; · iexact H10
          isplitl [H4]; · iexact H4
          isplitl [H8]; · iexact H8
          iexact H3
        isplitl [H9]; · iexact H9
        iexact H12)
    iapply hs
    isplitl [H10 H4 H11]
    · isplitl [H10 H4]
      · isplitl [H10]; · iexact H10
        iexact H4
      iexact H11
    isplitl [H8]; · iexact H8
    isplitl [H3]; · iexact H3
    isplitl [H9]; · iexact H9
    iexact H12
  iintro ⟨%Y11, %h11, H11, ⟨H10, H4, H8, H3⟩, ⟨%Y9, H9⟩, H12⟩
  have hw := runs_bind (𝒱 := 𝒱) (c := c) (bd := bd) (E := E) (wordStep (F := Ideal) arg8 arg9 k cb)
    (fun _ => four (quarterStep (F := Ideal) arg3 arg9 arg11 arg12 harg12 k cb)) _
    (Fills.keep (T := iprop(Own c arg11 Y11 ∗ Own c arg10 X10 ∗ Own c arg4 X4 ∗ Own c arg3 X3 ∗ Own c arg12 Y))
      (wordStep_fills (𝒱 := 𝒱) (c := c) (bd := bd) (E := E) arg8 arg9 k X8 cb) Y9)
    (Q' := fun _ => iprop((Kept arg3 arg4 arg8 arg10 X3 X4 X8 X10 c ∗ Any c arg9 ∗ Any c arg11)
      ∗ ∃ Y', ⌜(∀ i ∈ {i : S4x1024x128.Idx | (i 0).val = cb.val}, Y' i = weightAt X3 X4 X8 X10 (grp k) (i 0) (i 1) (i 2))
        ∧ ∀ i, i ∉ {i : S4x1024x128.Idx | (i 0).val = cb.val} → Y' i = Y i⌝ ∗ Own c arg12 Y'))
    (fun _ => by
      iintro ⟨⟨H8, ⟨%Y', %hY, H9⟩⟩, H11, H10, H4, H3, H12⟩
      have h9 : ∀ p l : Fin 128, Y' (ix2 p l) = wordAt X8 (grp k) cb p l := fun p l => hY.1 (ix2 p l) fun a => by
        match a with
        | ⟨0, _⟩ => show 0 ≤ p.val ∧ p.val < 0 + 128; omega
        | ⟨1, _⟩ => show 0 ≤ l.val ∧ l.val < 0 + 128; omega
      have hq := (Fills.keep (T := iprop(Own c arg10 X10 ∗ Own c arg4 X4 ∗ Own c arg8 X8))
        (Fills.four fun q => quarterStep_fills (𝒱 := 𝒱) (c := c) (bd := bd) (E := E) arg3 arg9 arg11 arg12 harg12 k X3 X4 X8 X10 Y11 Y' cb q h9 h11) Y).trans
        (wp_mono _ _ _ (Q' := fun _ => iprop((Kept arg3 arg4 arg8 arg10 X3 X4 X8 X10 c ∗ Any c arg9 ∗ Any c arg11)
          ∗ ∃ Y', ⌜(∀ i ∈ {i : S4x1024x128.Idx | (i 0).val = cb.val}, Y' i = weightAt X3 X4 X8 X10 (grp k) (i 0) (i 1) (i 2))
            ∧ ∀ i, i ∉ {i : S4x1024x128.Idx | (i 0).val = cb.val} → Y' i = Y i⌝ ∗ Own c arg12 Y')) fun _ => by
          rw [rows_eq]
          iintro ⟨⟨⟨H9, H3, H11⟩, H12⟩, H10, H4, H8⟩
          isplitl [H9 H3 H11 H10 H4 H8]
          · isplitl [H3 H10 H4 H8]
            · isplitl [H10]; · iexact H10
              isplitl [H4]; · iexact H4
              isplitl [H8]; · iexact H8
              iexact H3
            isplitl [H9]
            · iexists _; iexact H9
            iexists _; iexact H11
          iexact H12)
      iapply hq
      isplitl [H9 H3 H11 H12]
      · isplitl [H9 H3 H11]
        · isplitl [H9]; · iexact H9
          isplitl [H3]; · iexact H3
          iexact H11
        iexact H12
      isplitl [H10]; · iexact H10
      isplitl [H4]; · iexact H4
      iexact H8)
  iapply hw
  isplitl [H8 H9]
  · isplitl [H8]; · iexact H8
    iexact H9
  isplitl [H11]; · iexact H11
  isplitl [H10]; · iexact H10
  isplitl [H4]; · iexact H4
  isplitl [H3]; · iexact H3
  iexact H12

/-- What a group adds to the accumulator at row `m` and column `j`. -/
def groupSum (k : Fin 10) (m : Fin 256) (j : Fin 512) : EReal :=
  ∑ r : Fin 1024, X1 (ix2 m ⟨1024 * k.val + r.val, by omega⟩) * weightAt X3 X4 X8 X10 k ⟨j.val / 128, by omega⟩ r ⟨j.val % 128, by omega⟩

theorem fst4_val : ∀ p : Fin 2, (fst4 p).val = 2 * p.val := by decide
theorem snd4_val : ∀ p : Fin 2, (snd4 p).val = 2 * p.val + 1 := by decide

/-- The products of a pair of column blocks are added to its columns of the accumulator. -/
theorem productStep_runs (p : Fin 2) (X12 : S4x1024x128.Idx → EReal) (Y : S256x512.Idx → EReal)
    (h12 : ∀ (x : Fin 4) (y : Fin 1024) (z : Fin 128), X12 (ix3 x y z) = weightAt X3 X4 X8 X10 (grp k) x y z) :
    iprop(Own c arg12 X12 ∗ Own c arg1 X1 ∗ Own c arg13 Y) ⊢ Runs 𝒱 c bd E (productStep (F := Ideal) arg1 arg12 arg13 k p) (fun _ =>
      iprop(Own c arg12 X12 ∗ Own c arg1 X1 ∗ ∃ Y', ⌜∀ (m : Fin 256) (j : Fin 512), Y' (ix2 m j) =
        if j.val / 256 = p.val then Y (ix2 m j) + groupSum X1 X3 X4 X8 X10 (grp k) m j else Y (ix2 m j)⌝ ∗ Own c arg13 Y')) := by
  unfold productStep
  iintro ⟨H12, H1, H13⟩
  iapply (load_rule 𝒱 bd E arg12 _ _ X12 _ _); isplitl [H12]; · iexact H12
  iintro H12
  iapply (load_rule 𝒱 bd E arg12 _ _ X12 _ _); isplitl [H12]; · iexact H12
  iintro H12
  iapply (load_rule 𝒱 bd E arg13 _ _ Y _ _); isplitl [H13]; · iexact H13
  iintro H13
  iapply (load_rule 𝒱 bd E arg1 _ _ X1 _ _); isplitl [H1]; · iexact H1
  iintro H1
  iapply (load_rule 𝒱 bd E arg13 _ _ Y _ _); isplitl [H13]; · iexact H13
  iintro H13
  iapply (store_rule 𝒱 bd E arg13 _ _ _ _ _ _ Y _); isplitl [H13]; · iexact H13
  iintro H13
  isplitl [H12]; · iexact H12
  isplitl [H1]; · iexact H1
  iexists _; isplitr; swap
  · iexact H13
  ipureintro
  intro m j
  by_cases hj : j.val / 256 = p.val
  · rw [if_pos hj]
    have hin : ∀ a, (![0, 256 * p.val] : Fin 2 → Nat) a ≤ ((ix2 m j : S256x512.Idx) a).val ∧ ((ix2 m j : S256x512.Idx) a).val < (![0, 256 * p.val] : Fin 2 → Nat) a + S256x256.size a := fun a => by
      match a with
      | ⟨0, _⟩ => show 0 ≤ m.val ∧ m.val < 0 + 256; omega
      | ⟨1, _⟩ => show 256 * p.val ≤ j.val ∧ j.val < 256 * p.val + 256; omega
    refine (dif_pos hin).trans ?_
    refine (congrArg (product _ _ _ _) (?_ : _ = ix2 m (⟨j.val - 256 * p.val, by omega⟩ : Fin 256))).trans ((product_apply _ _ _ _ _ _).trans ?_)
    · funext t
      match t with
      | ⟨0, _⟩ => rfl
      | ⟨1, _⟩ => rfl
    refine congr (congrArg HAdd.hAdd (congrArg Y (idx2 _ _ _ _ ?_ ?_))) ?_
    · show 0 + 1 * m.val = m.val; omega
    · show 256 * p.val + 1 * (j.val - 256 * p.val) = j.val; omega
    unfold groupSum
    refine Finset.sum_congr rfl fun r _ => ?_
    refine congr (congrArg HMul.hMul (congrArg X1 (idx2 _ _ _ _ ?_ ?_))) ?_
    · show k0_off19 k 0 + 1 * m.val = m.val; rw [k0_off19_eq]; show 0 + 1 * m.val = m.val; omega
    · show k0_off19 k 1 + 1 * r.val = 1024 * k.val + r.val; rw [k0_off19_eq]; show 1024 * k.val + 1 * r.val = 1024 * k.val + r.val; omega
    by_cases hl : j.val - 256 * p.val < 128
    · rw [dif_pos hl]
      refine (congrArg X12 (idx3 _ _ (⟨j.val / 128, by omega⟩ : Fin 4) r (⟨j.val % 128, by omega⟩ : Fin 128) ?_ ?_ ?_)).trans (h12 _ _ _)
      · show (fst4 p).val + 0 = j.val / 128
        have hf : (fst4 p).val = 2 * p.val := fst4_val p
        omega
      · show 0 + r.val = r.val; omega
      · show 0 + (j.val - 256 * p.val) = j.val % 128; omega
    · rw [dif_neg hl]
      refine (congrArg X12 (idx3 _ _ (⟨j.val / 128, by omega⟩ : Fin 4) r (⟨j.val % 128, by omega⟩ : Fin 128) ?_ ?_ ?_)).trans (h12 _ _ _)
      · show (snd4 p).val + 0 = j.val / 128
        have hf : (snd4 p).val = 2 * p.val + 1 := snd4_val p
        omega
      · show 0 + r.val = r.val; omega
      · show 0 + (j.val - 256 * p.val - 128) = j.val % 128; omega
  · rw [if_neg hj]
    refine dif_neg fun h => hj ?_
    have h1 : 256 * p.val ≤ j.val ∧ j.val < 256 * p.val + 256 := h 1
    omega

/-- One group adds the products of its slice of the activations and of its weights. -/
theorem region_runs (A : S256x512.Idx → EReal) :
    iprop((Kept arg3 arg4 arg8 arg10 X3 X4 X8 X10 c ∗ Any c arg9 ∗ Any c arg11) ∗ Own c arg1 X1 ∗ Any c arg12 ∗ Own c arg13 A)
      ⊢ Runs 𝒱 c bd E (region (F := Ideal) arg1 arg3 arg4 arg8 arg9 arg10 arg11 harg11 arg12 harg12 arg13 k) (fun _ =>
        iprop((Kept arg3 arg4 arg8 arg10 X3 X4 X8 X10 c ∗ Any c arg9 ∗ Any c arg11) ∗ Own c arg1 X1 ∗ Any c arg12
          ∗ Own c arg13 (fun i => A i + groupSum X1 X3 X4 X8 X10 (grp k) (i 0) (i 1)))) := by
  unfold region
  iintro ⟨HK, H1, ⟨%Y12, H12⟩, H13⟩
  have hall := runs_bind (𝒱 := 𝒱) (c := c) (bd := bd) (E := E) (four (columnStep (F := Ideal) arg3 arg4 arg8 arg9 arg10 arg11 harg11 arg12 harg12 k))
    (fun _ => two (productStep (F := Ideal) arg1 arg12 arg13 k)) _
    (Fills.keep (T := iprop(Own c arg1 X1 ∗ Own c arg13 A))
      (Fills.four fun cb => columnStep_fills (𝒱 := 𝒱) (c := c) (bd := bd) (E := E) arg3 arg4 arg8 arg9 arg10 arg11 harg11 arg12 harg12 k X3 X4 X8 X10 cb) Y12)
    (Q' := fun _ => iprop((Kept arg3 arg4 arg8 arg10 X3 X4 X8 X10 c ∗ Any c arg9 ∗ Any c arg11) ∗ Own c arg1 X1 ∗ Any c arg12
          ∗ Own c arg13 (fun i => A i + groupSum X1 X3 X4 X8 X10 (grp k) (i 0) (i 1))))
    (fun _ => by
      iintro ⟨⟨HK, ⟨%X12, %h12', H12⟩⟩, H1, H13⟩
      have h12 : ∀ (x : Fin 4) (y : Fin 1024) (z : Fin 128), X12 (ix3 x y z) = weightAt X3 X4 X8 X10 (grp k) x y z :=
        fun x y z => h12'.1 (ix3 x y z) (Set.mem_iUnion.2 ⟨x, rfl⟩)
      have hp := runs_bind (𝒱 := 𝒱) (c := c) (bd := bd) (E := E) (productStep (F := Ideal) arg1 arg12 arg13 k 0)
        (fun _ => productStep (F := Ideal) arg1 arg12 arg13 k 1) _
        (productStep_runs arg1 arg12 arg13 k X1 X3 X4 X8 X10 0 X12 A h12)
        (Q' := fun _ => iprop(Own c arg12 X12 ∗ Own c arg1 X1 ∗ Own c arg13 (fun i => A i + groupSum X1 X3 X4 X8 X10 (grp k) (i 0) (i 1))))
        (fun _ => by
          iintro ⟨H12, H1, ⟨%Y1, %hY1, H13⟩⟩
          have hp1 := (productStep_runs (𝒱 := 𝒱) (c := c) (bd := bd) (E := E) arg1 arg12 arg13 k X1 X3 X4 X8 X10 1 X12 Y1 h12).trans
            (wp_mono _ _ _ (Q' := fun _ => iprop(Own c arg12 X12 ∗ Own c arg1 X1 ∗ Own c arg13 (fun i => A i + groupSum X1 X3 X4 X8 X10 (grp k) (i 0) (i 1)))) fun _ => by
              iintro ⟨H12, H1, ⟨%Y2, %hY2, H13⟩⟩
              isplitl [H12]; · iexact H12
              isplitl [H1]; · iexact H1
              have e : Y2 = fun i => A i + groupSum X1 X3 X4 X8 X10 (grp k) (i 0) (i 1) := by
                funext i
                obtain ⟨m, j, rfl⟩ : ∃ (m : Fin 256) (j : Fin 512), i = ix2 m j := ⟨i 0, i 1, eq_ix2 i⟩
                refine (hY2 _ _).trans ?_
                rw [hY1]
                show _ = A (ix2 m j) + groupSum X1 X3 X4 X8 X10 (grp k) m j
                by_cases h1 : j.val / 256 = (1 : Fin 2).val
                · rw [if_pos h1, if_neg (by show ¬ _ = 0; have : j.val / 256 = 1 := h1; omega)]
                · rw [if_neg h1, if_pos (by show _ = 0; have : ¬ j.val / 256 = 1 := h1; omega)]
              rw [e]
              iexact H13)
          iapply hp1
          isplitl [H12]; · iexact H12
          isplitl [H1]; · iexact H1
          iexact H13)
      have hp' := (sep_mono_left (Q := iprop(Kept arg3 arg4 arg8 arg10 X3 X4 X8 X10 c ∗ Any c arg9 ∗ Any c arg11)) hp).trans
        ((wp_frame_r frame (wpE (defs₀ (F := Ideal)) 𝒱 (c : Thread nD τ) bd) E).trans
        (wp_mono _ _ _ (Q' := fun _ => iprop((Kept arg3 arg4 arg8 arg10 X3 X4 X8 X10 c ∗ Any c arg9 ∗ Any c arg11) ∗ Own c arg1 X1 ∗ Any c arg12
          ∗ Own c arg13 (fun i => A i + groupSum X1 X3 X4 X8 X10 (grp k) (i 0) (i 1)))) fun _ => by
          iintro ⟨⟨H12, H1, H13⟩, HK⟩
          isplitl [HK]; · iexact HK
          isplitl [H1]; · iexact H1
          isplitl [H12]
          · iexists _; iexact H12
          iexact H13))
      iapply hp'
      isplitl [H12 H1 H13]
      · isplitl [H12]; · iexact H12
        isplitl [H1]; · iexact H1
        iexact H13
      iexact HK)
  iapply hall
  isplitl [HK H12]
  · isplitl [HK]; · iexact HK
    iexact H12
  isplitl [H1]; · iexact H1
  iexact H13

end Cert.KernelIdeal.Value
-- ==== Proof.RolledEq.lean ====
/-
The printed region of the loop is the rolled one.
-/
module

public import proofs.«01_k».proof.Proof.Rolled

@[expose] public section

set_option synthInstance.maxSize 4096

noncomputable section

namespace Cert.KernelIdeal.Rolled

open Idealize.ShloMosaic Idealize.SL.Sem
open Cert.KernelIdeal.Gen

variable {F : FTy → Type} [FloatOps F]

theorem op_step.{v} {E : Type → Type v} {α β : Type} (e : E β) {k k' : β → Prog E α} (h : ∀ x, k x = k' x) : Prog.op e k = Prog.op e k' := by
  rw [funext h]

set_option maxRecDepth 1000000 in
set_option maxHeartbeats 0 in
/-- The printed region and the rolled one are the same program. -/
theorem region_eq (i : grid0.Coords) (arg1 : Memref sig .tc .vmem S256x10240 .bf16) (harg1 : arg1.IsWhole) (arg2 : Memref sig .tc .hbm S286720x128 .i8) (harg2 : arg2.IsWhole) (arg3 : Memref sig .tc .vmem S40x64x512 .i8) (harg3 : arg3.IsWhole) (arg4 : Memref sig .tc .vmem S40x16x512 .i8) (harg4 : arg4.IsWhole) (arg5 : Memref sig .tc .vmem S40x512 .i16) (harg5 : arg5.IsWhole) (arg6 : Memref sig .tc .vmem S256x512 .bf16) (harg6 : arg6.IsWhole) (arg7 : Memref sig .tc .vmem S20480x128 .i8) (harg7 : arg7.IsWhole) (arg8 : Memref sig .tc .vmem S5120x128 .i32) (harg8 : arg8.IsWhole) (arg9 : Memref sig .tc .vmem S128x128 .i32) (harg9 : arg9.IsWhole) (arg10 : Memref sig .tc .vmem S4x40x128 .f32) (harg10 : arg10.IsWhole) (arg11 : Memref sig .tc .vmem S64x2x512 .bf16) (harg11 : arg11.IsWhole) (arg12 : Memref sig .tc .vmem S4x1024x128 .bf16) (harg12 : arg12.IsWhole) (arg13 : Memref sig .tc .vmem S256x512 .f32) (harg13 : arg13.IsWhole) (v211_r0 : DmaSems sig S_) (k : Fin k0_t1_loop.trips) :
    k0_t1_body (F := F) i arg1 harg1 arg2 harg2 arg3 harg3 arg4 harg4 arg5 harg5 arg6 harg6 arg7 harg7 arg8 harg8 arg9 harg9 arg10 harg10 arg11 harg11 arg12 harg12 arg13 harg13 v211_r0 k PUnit.unit
      = region arg1 arg3 arg4 arg8 arg9 arg10 arg11 harg11 arg12 harg12 arg13 k := by
  repeat (apply op_step; intro _)
  rfl

end Cert.KernelIdeal.Rolled
-- ==== Proof.Decode.lean ====
/-
The half-precision scale of a super-block, decoded by the kernel from its sixteen bits, is what the bits denote.
-/
module

public import proofs.«01_k».proof.Proof.Gen.KernelIdeal.Skeleton
public import Idealize.ShloMosaic.Lib.Pointwise
public import Idealize.ShloMosaic.Lib.ValueIdx

@[expose] public section

noncomputable section

namespace Cert.KernelIdeal.Value

open Cert.KernelIdeal Cert.KernelIdeal.Gen
open Idealize.ShloMosaic Idealize.ShloMosaic.TcCoe Idealize.ShloMosaic.Tactic

/-- What the kernel stores for a block of scales. -/
def decodeBlock (v : Vec Ideal S40x128 .i16) : FVec Ideal S1x40x128 .f32 :=
  k0_pay766 (F := Ideal) (k0_pay761 (F := Ideal) v) (k0_pay762 (F := Ideal) v) (k0_pay763 (F := Ideal) v) (k0_pay764 (F := Ideal) v) (k0_pay765 (F := Ideal) v)

theorem decode_second (v : Vec Ideal S40x128 .i16) : k0_pay770 (F := Ideal) (k0_pay767 (F := Ideal) v) (k0_pay768 (F := Ideal) v) (k0_pay769 (F := Ideal) v) = decodeBlock v := rfl
theorem decode_third (v : Vec Ideal S40x128 .i16) : k0_pay773 (F := Ideal) (k0_pay772 (F := Ideal) (k0_pay771 (F := Ideal) v)) = decodeBlock v := rfl
theorem decode_fourth (v : Vec Ideal S40x128 .i16) :
    k0_pay1 (F := Ideal) (k0_pay776 (F := Ideal) v) (k0_pay778 (F := Ideal) v) (k0_pay779 (F := Ideal) v) (k0_pay780 (F := Ideal) v) k0_pay781 = decodeBlock v := rfl

/-- The sixteen bits, in a word. -/
abbrev wide (b : BitVec 16) : BitVec 32 := b.signExtend 32 &&& 65535#32
/-- The sign, the exponent and the fraction as the kernel takes them. -/
abbrev sgnW (b : BitVec 16) : BitVec 32 := (wide b &&& 32768#32) <<< 16
abbrev expW (b : BitVec 16) : BitVec 32 := ((wide b).sshiftRight 10) &&& 31#32
abbrev fracW (b : BitVec 16) : BitVec 32 := wide b &&& 1023#32

/-- The kernel's decoding of one scale. -/
def decode (b : BitVec 16) : EReal :=
  if expW b = 0#32 then
    (if sgnW b ≠ 0#32 then (0 : EReal) - (((fracW b).toInt : ℝ) : EReal) * Ideal.ofBits .f32 0x33800000#32
      else (((fracW b).toInt : ℝ) : EReal) * Ideal.ofBits .f32 0x33800000#32)
  else if expW b = 31#32 then Ideal.ofBits .f32 (2139095040#32 ||| (fracW b <<< 13) ||| sgnW b)
  else Ideal.ofBits .f32 (((expW b + 112#32) <<< 23) ||| (fracW b <<< 13) ||| sgnW b)

theorem select_eq {α : Type} (a b : BitVec 32) (x y : α) : Scalar.select (IntOp.cmpi .eq a b) x y = if a = b then x else y := by
  unfold Scalar.select IntOp.cmpi
  by_cases h : a = b
  · simp [h]
  · have : (a == b) = false := by simpa using h
    simp [this, h]
theorem select_ne {α : Type} (a b : BitVec 32) (x y : α) : Scalar.select (IntOp.cmpi .ne a b) x y = if a ≠ b then x else y := by
  unfold Scalar.select IntOp.cmpi
  by_cases h : a = b
  · simp [h]
  · have : (a == b) = false := by simpa using h
    simp [bne, this, h]

/-- What the kernel stores, element by element. -/
theorem decodeBlock_apply (v : Vec Ideal S40x128 .i16) (a : Fin 1) (y : Fin 40) (z : Fin 128) :
    decodeBlock v (ix3 a y z) = decode (v (ix2 y z)) * Ideal.ofBits .f32 0x3E800000#32 := by
  unfold decodeBlock
  pointwise [k0_pay766, k0_pay761, k0_pay762, k0_pay763, k0_pay764, k0_pay765, k0_pay760]
  simp only [select_eq, select_ne]
  rfl

/-! The fields of the sixteen bits, and of the word that the kernel makes of them. -/

theorem expW_eq (b : BitVec 16) : expW b = (b.extractLsb' 10 5).setWidth 32 := by
  ext i hi
  simp [expW, wide, BitVec.getElem_sshiftRight]
  interval_cases i <;> simp [BitVec.getElem_signExtend]
theorem fracW_eq (b : BitVec 16) : fracW b = (b.extractLsb' 0 10).setWidth 32 := by
  ext i hi
  simp [fracW, wide]
  interval_cases i <;> simp [BitVec.getElem_signExtend]
theorem sgnW_eq (b : BitVec 16) : sgnW b = (b.extractLsb' 15 1).setWidth 32 <<< 31 := by
  ext i hi
  simp [sgnW, wide]
  interval_cases i <;> simp [BitVec.getElem_signExtend]

/-- The value of single-precision bits, by fields. -/
theorem ieee_fields (E : BitVec 8) (f : BitVec 10) (s : BitVec 1) :
    let w := (E.setWidth 32 <<< 23) ||| (f.setWidth 32 <<< 13) ||| (s.setWidth 32 <<< 31)
    w.extractLsb' 31 1 = s ∧ w.extractLsb' 23 8 = E ∧ w.extractLsb' 0 23 = f.setWidth 23 <<< 13 := by
  intro w
  refine ⟨?_, ?_, ?_⟩
  · ext i hi
    interval_cases i <;> simp [w]
  · ext i hi
    interval_cases i <;> simp [w]
  · ext i hi
    interval_cases i <;> simp [w]

theorem exp_shift : ∀ e : BitVec 5, e.setWidth 32 + 112#32 = (e.setWidth 8 + 112#8).setWidth 32 ∧ (e.setWidth 8 + 112#8).toNat = e.toNat + 112 := by
  decide
theorem frac_shift (f : BitVec 10) : (f.setWidth 23 <<< 13).toNat = f.toNat * 8192 := by
  have := f.isLt
  simp [BitVec.toNat_shiftLeft, Nat.shiftLeft_eq]
  omega

/-- A sign bit's sign. -/
def sgn (s : BitVec 1) : ℝ := if (s == 1#1) then -1 else 1

theorem single_value (E : BitVec 8) (f : BitVec 10) (s : BitVec 1) :
    Ideal.ofBits .f32 ((E.setWidth 32 <<< 23) ||| (f.setWidth 32 <<< 13) ||| (s.setWidth 32 <<< 31))
      = if E.toNat = 255 then (if f.toNat * 8192 = 0 then (if (s == 1#1) then ⊥ else ⊤) else ⊥)
        else if E.toNat = 0 then ((sgn s * (f.toNat * 8192 : ℕ) * (2 : ℝ) ^ (-149 : Int) : ℝ) : EReal)
        else ((sgn s * (2 ^ 23 + f.toNat * 8192 : ℕ) * (2 : ℝ) ^ ((E.toNat : Int) - 127 - 23) : ℝ) : EReal) := by
  obtain ⟨h1, h2, h3⟩ := ieee_fields E f s
  show Ideal.ieee 8 23 _ = _
  unfold Ideal.ieee
  dsimp only [Nat.reduceAdd]
  rw [h1, h2, h3, frac_shift]
  norm_num [sgn]

theorem half_value (b : BitVec 16) :
    Ideal.ofBits .f16 b
      = if (b.extractLsb' 10 5).toNat = 31 then (if (b.extractLsb' 0 10).toNat = 0 then (if (b.extractLsb' 15 1 == 1#1) then ⊥ else ⊤) else ⊥)
        else if (b.extractLsb' 10 5).toNat = 0 then ((sgn (b.extractLsb' 15 1) * ((b.extractLsb' 0 10).toNat : ℕ) * (2 : ℝ) ^ (-24 : Int) : ℝ) : EReal)
        else ((sgn (b.extractLsb' 15 1) * (2 ^ 10 + (b.extractLsb' 0 10).toNat : ℕ) * (2 : ℝ) ^ (((b.extractLsb' 10 5).toNat : Int) - 15 - 10) : ℝ) : EReal) := by
  show Ideal.ieee 5 10 _ = _
  unfold Ideal.ieee
  dsimp only [Nat.reduceAdd]
  norm_num [sgn]

theorem tiny_eq : Ideal.ofBits .f32 0x33800000#32 = (((2 : ℝ) ^ (-24 : Int) : ℝ) : EReal) := by
  have h := single_value 103#8 0#10 0#1
  rw [show ((BitVec.setWidth 32 103#8 <<< 23) ||| (BitVec.setWidth 32 0#10 <<< 13) ||| (BitVec.setWidth 32 0#1 <<< 31)) = 0x33800000#32 by decide] at h
  rw [h, if_neg (by decide), if_neg (by decide)]
  congr 1
  norm_num [sgn]

theorem quarter_eq : Ideal.ofBits .f32 0x3E800000#32 = ((4⁻¹ : ℝ) : EReal) := by
  have h := single_value 125#8 0#10 0#1
  rw [show ((BitVec.setWidth 32 125#8 <<< 23) ||| (BitVec.setWidth 32 0#10 <<< 13) ||| (BitVec.setWidth 32 0#1 <<< 31)) = 0x3E800000#32 by decide] at h
  rw [h, if_neg (by decide), if_neg (by decide)]
  congr 1
  norm_num [sgn]

/-- The kernel decodes a half-precision number to what its bits denote. -/
theorem decode_eq (b : BitVec 16) : decode b = Ideal.ofBits .f16 b := by
  rw [half_value]
  unfold decode
  rw [expW_eq, fracW_eq, sgnW_eq]
  generalize b.extractLsb' 10 5 = e
  generalize b.extractLsb' 0 10 = f
  generalize b.extractLsb' 15 1 = s
  have h0 : (e.setWidth 32 = 0#32) ↔ e.toNat = 0 := by revert e; decide
  have h31 : (e.setWidth 32 = 31#32) ↔ e.toNat = 31 := by revert e; decide
  have hs : (s.setWidth 32 <<< 31 ≠ 0#32) ↔ (s == 1#1) = true := by revert s; decide
  have hf : (f.setWidth 32).toInt = f.toNat := by
    have := f.isLt
    have e : (f.setWidth 32).toNat = f.toNat := by rw [BitVec.toNat_setWidth]; exact Nat.mod_eq_of_lt (by omega)
    rw [BitVec.toInt_eq_toNat_of_lt (by omega), e]
  by_cases c0 : e.toNat = 0
  · rw [if_pos (h0.2 c0), if_neg (show ¬ e.toNat = 31 by omega), if_pos c0, hf, tiny_eq, ← EReal.coe_mul]
    by_cases c : (s == 1#1) = true
    · rw [if_pos (hs.2 c), sgn, if_pos c, ← EReal.coe_zero, ← EReal.coe_sub]
      congr 1; push_cast; ring
    · rw [if_neg (mt hs.1 c), sgn, if_neg c]
      congr 1; push_cast; ring
  rw [if_neg (mt h0.1 c0)]
  by_cases c31 : e.toNat = 31
  · rw [if_pos (h31.2 c31), if_pos c31]
    refine (single_value 255#8 f s).trans ?_
    rw [if_pos (by decide)]
    simp
  rw [if_neg (mt h31.1 c31), if_neg c31, if_neg c0, (exp_shift e).1, single_value, (exp_shift e).2]
  have := e.isLt
  rw [if_neg (show ¬ e.toNat + 112 = 255 by omega), if_neg (show ¬ e.toNat + 112 = 0 by omega)]
  congr 1
  rw [show (((e.toNat + 112 : ℕ) : Int) - 127 - 23) = ((e.toNat : Int) - 15 - 10) + (-13) by push_cast; ring, zpow_add₀ (by norm_num)]
  push_cast
  norm_num
  ring

end Cert.KernelIdeal.Value
-- ==== Proof.Body.lean ====
/-
What the kernel's body leaves in its result block, named: the sum over the ten groups of super-blocks.
-/
module

public import proofs.«01_k».proof.Proof.Region
public import proofs.«01_k».proof.Proof.RolledEq
public import proofs.«01_k».proof.Proof.Decode

@[expose] public section

noncomputable section

namespace Cert.KernelIdeal.Value

open Cert.KernelIdeal Cert.KernelIdeal.Gen Cert.KernelIdeal.Rolled Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- A store followed by more of the program. -/
theorem store_bind (𝒱 : Variants) {c : Dev nD} (bd : Option 𝒱.V) (E : Set ℕ) {S : Shape} {e : EltTy} {α : Type} (M : Memref sig .tc .vmem S e)
    (off size : Fin S.rank → ℕ) (inb : ∀ a, off a + size a ≤ S.size a)
    (w : (Rect.unit off size inb).shape.Idx → Elt Ideal e) (hx : (M.access (Rect.unit off size inb)).Stores Finset.univ)
    (hm : Finset.univ = Finset.univ ∨ ∀ a, (Rect.unit off size inb).stride a = 1) (X : S.Idx → Elt Ideal e)
    (k : PUnit → Prog (TpuEff nD τ sig (Elt Ideal) Λ₀ .tc) α) (Q : α → sProp 𝕄) :
    iprop(Own c M X ∗ (Own c M (VecWindow.put X off size w) -∗ Runs 𝒱 c bd E (k ⟨⟩) Q))
      ⊢ Runs 𝒱 c bd E (Prog.lift (TpuEff.store M (Rect.unit off size inb) w Finset.univ hx hm) >>= k) Q := by
  show _ ⊢ wp frame (wpE (defs₀ (F := Ideal)) 𝒱 (c : Thread nD τ) bd) E (Prog.lift (TpuEff.store M (Rect.unit off size inb) w Finset.univ hx hm) >>= k) Q
  rw [wp_bind]
  exact store_rule (c := c) 𝒱 bd E M off size inb w hx hm X (fun a => Runs 𝒱 c bd E (k a) Q)

/-- A memref's elements at some contents, and back. -/
theorem any_out (c : Dev nD) {S : Shape} {e : EltTy} (M : Memref sig .tc .vmem S e) :
    (Any c M : sProp 𝕄) ⊢ iprop(∃ f, M.view.loc (c : Thread nD τ) ↦[M.view.set]{fullShare} f) := by
  unfold Any Own owns
  iintro ⟨%Y, %f, %hf, H⟩
  iexists f; iexact H
theorem any_of (c : Dev nD) {S : Shape} {e : EltTy} (M : Memref sig .tc .vmem S e) (f : Buf (Elt Ideal) (M.view.loc (c : Thread nD τ))) :
    (M.view.loc (c : Thread nD τ) ↦[M.view.set]{fullShare} f : sProp 𝕄) ⊢ Any c M := by
  unfold Any Own owns
  iintro H
  iexists _, _; isplitr; swap; · iexact H
  ipureintro; rfl

/-- A whole buffer loaded. -/
theorem load_whole {S : Shape} {α : Type} (X : S.Idx → α) (off : Fin S.rank → ℕ) (h : ∀ a, off a = 0) (inb : ∀ a, off a + S.size a ≤ S.size a) :
    (fun j => X ((Rect.unit (s := S) off S.size inb).toLoadRect.idx j)) = X := by
  funext j
  refine congrArg X ?_
  funext a
  exact Fin.ext (by simp [LoadRect.idx, Rect.toLoadRect, Rect.unit, h a])

/-- A whole buffer stored. -/
theorem put_whole {S : Shape} {e : EltTy} (X w : S.Idx → Elt Ideal e) (off : Fin S.rank → ℕ) (h : ∀ a, off a = 0) :
    VecWindow.put X off S.size w = w := by
  funext j
  have hj : ∀ a, off a ≤ (j a).val ∧ (j a).val < off a + S.size a := fun a => ⟨by rw [h a]; omega, by rw [h a]; have := (j a).isLt; omega⟩
  refine (dif_pos hj).trans (congrArg w ?_)
  funext a
  exact Fin.ext (by simp [h a])

variable (c : Dev nD) (i : grid0.Coords) (arg1 : Memref sig .tc .vmem S256x10240 .bf16) (harg1 : arg1.IsWhole) (arg3 : Memref sig .tc .vmem S40x64x512 .i8) (harg3 : arg3.IsWhole) (arg4 : Memref sig .tc .vmem S40x16x512 .i8) (harg4 : arg4.IsWhole) (arg5 : Memref sig .tc .vmem S40x512 .i16) (harg5 : arg5.IsWhole) (arg6 : Memref sig .tc .vmem S256x512 .bf16) (harg6 : arg6.IsWhole)
  (X1 : S256x10240.Idx → Elt Ideal .bf16) (X3 : S40x64x512.Idx → Elt Ideal .i8) (X4 : S40x16x512.Idx → Elt Ideal .i8) (X5 : S40x512.Idx → Elt Ideal .i16)
  (fh : Buf (Elt Ideal) (hbM.view.loc (c : Thread nD τ)))

/-- The rows of the packed low bits that the body fetches. -/
def slab : S20480x128.Idx → Elt Ideal .i8 :=
  View.read (Elt Ideal) (hbM.slice (Rect.unit (s := S286720x128) (k0_off1 i) S20480x128.size (k0_off1_inb i)) (fun _ => rfl)).view fh

/-- The words they are read as. -/
def slabWords : S5120x128.Idx → Elt Ideal .i32 := k0_pay758 (F := Ideal) (slab c i fh)

/-- A block of the scales' bits. -/
def bits (off : Fin 2 → ℕ) (inb : ∀ a, off a + S40x128.size a ≤ S40x512.size a) : Vec Ideal S40x128 .i16 :=
  fun j => X5 ((Rect.unit (s := S40x512) off S40x128.size inb).toLoadRect.idx j)

set_option maxHeartbeats 4000000 in
set_option maxRecDepth 100000 in
/-- The fetch, the words, the cleared accumulator, and the first block of the scales' bits. -/
theorem part153_runs (W : Waits sig Unit) :
    iprop(Any c sc0 ∗ Any c sc1 ∗ Any c sc6 ∗ Own c arg5 X5
        ∗ semVal ((c : Thread nD τ), SemLoc.dma 9) 0 ∗ hbPt c hbM fh
        ∗ owes (c : Thread nD τ) 0 W)
      ⊢ Runs Variants.none c none Set.univ
          (k0_part153 (F := Ideal) i arg1 harg1 hbM (Memref.isWhole_whole _) arg3 harg3 arg4 harg4 arg5 harg5 arg6 harg6 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0) (fun v => iprop(⌜v = ⟨k0_pay761 (F := Ideal) (bits X5 ![0, 0] inb_S40x512_S40x128_0_0), k0_pay762 (F := Ideal) (bits X5 ![0, 0] inb_S40x512_S40x128_0_0), k0_pay763 (F := Ideal) (bits X5 ![0, 0] inb_S40x512_S40x128_0_0), k0_pay764 (F := Ideal) (bits X5 ![0, 0] inb_S40x512_S40x128_0_0), k0_pay765 (F := Ideal) (bits X5 ![0, 0] inb_S40x512_S40x128_0_0)⟩⌝
        ∗ Any c sc0 ∗ Own c sc1 (slabWords c i fh) ∗ Own c sc6 (k0_pay759 (F := Ideal)) ∗ Own c arg5 X5
        ∗ semVal ((c : Thread nD τ), SemLoc.dma 9) 0 ∗ hbPt c hbM fh
        ∗ ∃ W', owes (c : Thread nD τ) 0 W')) := by
  rw [k0_part153_eq_skeleton]; unfold k0_part153_skel
  unfold Runs
  refine (sep_mono_left (any_out c sc0)).trans ?_
  iintro ⟨⟨%f7, H7⟩, H8, H13, H5, Hq, Hh, HW⟩
  sl_exec
  have hv : part153_runs.sl.v2 c i fh = slab c i fh := by
    delta part153_runs.sl.v2 part153_runs.sl.dma0
    exact View.readCov_full sc0.view inb_S20480x128_S20480x128_0_0 (fun _ => (Nat.zero_add _).le) _ []
  rw [hv]
  icases H8 with ⟨%Y8, H8⟩
  icases H13 with ⟨%Y13, H13⟩
  iapply (load_rule Variants.none none Set.univ sc1 _ _ Y8 _ _)
  isplitl [H8]; · iexact H8
  iintro H8
  iapply (store_bind Variants.none none Set.univ sc1 _ _ _ _ _ _ Y8 _ _)
  isplitl [H8]; · iexact H8
  iintro H8
  rw [put_whole (S := S5120x128) _ _ _ (by decide)]
  iapply (load_rule Variants.none none Set.univ sc6 _ _ Y13 _ _)
  isplitl [H13]; · iexact H13
  iintro H13
  iapply (store_bind Variants.none none Set.univ sc6 _ _ _ _ _ _ Y13 _ _)
  isplitl [H13]; · iexact H13
  iintro H13
  rw [put_whole (S := S256x512) _ _ _ (by decide)]
  iapply (load_rule Variants.none none Set.univ arg5 _ _ X5 _ _)
  isplitl [H5]; · iexact H5
  iintro H5
  iapply (le_wp_ret frame (wpE (defs₀ (F := Ideal)) Variants.none (c : Thread nD τ) none) Set.univ _ _)
  isplitr; · ipureintro; rfl
  isplitl [H7]
  · iapply (any_of c sc0 _) $$ H7
  isplitl [H8]; · iexact H8
  isplitl [H13]; · iexact H13
  isplitl [H5]; · iexact H5
  isplitl [Hq]; · iexact Hq
  isplitl [Hh]; · iexact Hh
  iexists _; iexact HW

end Cert.KernelIdeal.Value
-- ==== Proof.BodyRun.lean ====
/-
What the kernel's body leaves in its result block, named: the sum over the ten groups of super-blocks.
-/
module

public import proofs.«01_k».proof.Proof.Body

@[expose] public section

noncomputable section

namespace Cert.KernelIdeal.Value

open Cert.KernelIdeal Cert.KernelIdeal.Gen Cert.KernelIdeal.Rolled Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- One program, then the next, from what the first leaves. -/
theorem runs_then {𝒱 : Variants} {c : Dev nD} {bd : Option 𝒱.V} {E : Set ℕ} {α β : Type} {P : sProp 𝕄} {Q' : β → sProp 𝕄}
    (p : Prog (TpuEff nD τ sig (Elt Ideal) Λ₀ .tc) α) (k : α → Prog (TpuEff nD τ sig (Elt Ideal) Λ₀ .tc) β)
    (Q : α → sProp 𝕄) (h : P ⊢ Runs 𝒱 c bd E p Q) : iprop(P ∗ (∀ a, Q a -∗ Runs 𝒱 c bd E (k a) Q')) ⊢ Runs 𝒱 c bd E (p >>= k) Q' :=
  runs_bind p k (fun a => iprop(Q a ∗ (∀ a, Q a -∗ Runs 𝒱 c bd E (k a) Q')))
    ((sep_mono_left h).trans (wp_frame_r frame (wpE (defs₀ (F := Ideal)) 𝒱 (c : Thread nD τ) bd) E)) fun a => by
      iintro ⟨HQ, Hk⟩
      iapply Hk
      iexact HQ

variable (c : Dev nD) (i : grid0.Coords) (arg1 : Memref sig .tc .vmem S256x10240 .bf16) (harg1 : arg1.IsWhole) (arg3 : Memref sig .tc .vmem S40x64x512 .i8) (harg3 : arg3.IsWhole) (arg4 : Memref sig .tc .vmem S40x16x512 .i8) (harg4 : arg4.IsWhole) (arg5 : Memref sig .tc .vmem S40x512 .i16) (harg5 : arg5.IsWhole) (arg6 : Memref sig .tc .vmem S256x512 .bf16) (harg6 : arg6.IsWhole)
  (X1 : S256x10240.Idx → Elt Ideal .bf16) (X3 : S40x64x512.Idx → Elt Ideal .i8) (X4 : S40x16x512.Idx → Elt Ideal .i8) (X5 : S40x512.Idx → Elt Ideal .i16)
  (fh : Buf (Elt Ideal) (hbM.view.loc (c : Thread nD τ)))

set_option maxRecDepth 100000 in
/-- A decoded block stored, and the next block's bits. -/
theorem part154_runs (Y : S4x40x128.Idx → Elt Ideal .f32) (v19 v23 v25 v29 v31 : IVec S40x128 32) :
    iprop(Own c sc3 Y ∗ Own c arg5 X5)
      ⊢ Runs Variants.none c none Set.univ (k0_part154 (F := Ideal) i arg1 harg1 hbM (Memref.isWhole_whole _) arg3 harg3 arg4 harg4 arg5 harg5 arg6 harg6 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0 v19 v23 v25 v29 v31) (fun v => iprop(⌜v = ⟨k0_pay767 (F := Ideal) (bits X5 ![0, 128] inb_S40x512_S40x128_0_128), k0_pay768 (F := Ideal) (bits X5 ![0, 128] inb_S40x512_S40x128_0_128), k0_pay769 (F := Ideal) (bits X5 ![0, 128] inb_S40x512_S40x128_0_128)⟩⌝
        ∗ Own c sc3 (VecWindow.put Y ![0, 0, 0] S1x40x128.size (k0_pay766 (F := Ideal) v19 v23 v25 v29 v31)) ∗ Own c arg5 X5)) := by
  rw [k0_part154_eq_skeleton]; unfold k0_part154_skel
  iintro ⟨H10, H5⟩
  iapply (load_rule Variants.none none Set.univ sc3 _ _ Y _ _)
  isplitl [H10]; · iexact H10
  iintro H10
  iapply (store_bind Variants.none none Set.univ sc3 _ _ _ _ _ _ Y _ _)
  isplitl [H10]; · iexact H10
  iintro H10
  iapply (load_rule Variants.none none Set.univ arg5 _ _ X5 _ _)
  isplitl [H5]; · iexact H5
  iintro H5
  iapply (le_wp_ret frame (wpE (defs₀ (F := Ideal)) Variants.none (c : Thread nD τ) none) Set.univ _ _)
  isplitr; · ipureintro; rfl
  isplitl [H10]; · iexact H10
  iexact H5

set_option maxRecDepth 100000 in
/-- A decoded block stored, and the next block's bits. -/
theorem part155_runs (Y : S4x40x128.Idx → Elt Ideal .f32) (v64 v68 v72 : IVec S40x128 32) :
    iprop(Own c sc3 Y ∗ Own c arg5 X5)
      ⊢ Runs Variants.none c none Set.univ (k0_part155 (F := Ideal) i arg1 harg1 hbM (Memref.isWhole_whole _) arg3 harg3 arg4 harg4 arg5 harg5 arg6 harg6 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0 v64 v68 v72) (fun v => iprop(⌜v = k0_pay771 (F := Ideal) (bits X5 ![0, 256] inb_S40x512_S40x128_0_256)⌝
        ∗ Own c sc3 (VecWindow.put Y ![1, 0, 0] S1x40x128.size (k0_pay770 (F := Ideal) v64 v68 v72)) ∗ Own c arg5 X5)) := by
  rw [k0_part155_eq_skeleton]; unfold k0_part155_skel
  iintro ⟨H10, H5⟩
  iapply (load_rule Variants.none none Set.univ sc3 _ _ Y _ _)
  isplitl [H10]; · iexact H10
  iintro H10
  iapply (store_bind Variants.none none Set.univ sc3 _ _ _ _ _ _ Y _ _)
  isplitl [H10]; · iexact H10
  iintro H10
  iapply (load_rule Variants.none none Set.univ arg5 _ _ X5 _ _)
  isplitl [H5]; · iexact H5
  iintro H5
  iapply (le_wp_ret frame (wpE (defs₀ (F := Ideal)) Variants.none (c : Thread nD τ) none) Set.univ _ _)
  isplitr; · ipureintro; rfl
  isplitl [H10]; · iexact H10
  iexact H5

set_option maxRecDepth 100000 in
/-- A decoded block stored, and the next block's bits. -/
theorem part157_runs (Y : S4x40x128.Idx → Elt Ideal .f32) (v154 : FVec Ideal S40x128 .f32) :
    iprop(Own c sc3 Y ∗ Own c arg5 X5)
      ⊢ Runs Variants.none c none Set.univ (k0_part157 (F := Ideal) i arg1 harg1 hbM (Memref.isWhole_whole _) arg3 harg3 arg4 harg4 arg5 harg5 arg6 harg6 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0 v154) (fun v => iprop(⌜v = ⟨k0_pay776 (F := Ideal) (bits X5 ![0, 384] inb_S40x512_S40x128_0_384), k0_pay778 (F := Ideal) (bits X5 ![0, 384] inb_S40x512_S40x128_0_384), k0_pay779 (F := Ideal) (bits X5 ![0, 384] inb_S40x512_S40x128_0_384), k0_pay780 (F := Ideal) (bits X5 ![0, 384] inb_S40x512_S40x128_0_384), k0_pay781⟩⌝
        ∗ Own c sc3 (VecWindow.put Y ![2, 0, 0] S1x40x128.size (k0_pay773 (F := Ideal) v154)) ∗ Own c arg5 X5)) := by
  rw [k0_part157_eq_skeleton]; unfold k0_part157_skel
  iintro ⟨H10, H5⟩
  iapply (load_rule Variants.none none Set.univ sc3 _ _ Y _ _)
  isplitl [H10]; · iexact H10
  iintro H10
  iapply (store_bind Variants.none none Set.univ sc3 _ _ _ _ _ _ Y _ _)
  isplitl [H10]; · iexact H10
  iintro H10
  iapply (load_rule Variants.none none Set.univ arg5 _ _ X5 _ _)
  isplitl [H5]; · iexact H5
  iintro H5
  iapply (le_wp_ret frame (wpE (defs₀ (F := Ideal)) Variants.none (c : Thread nD τ) none) Set.univ _ _)
  isplitr; · ipureintro; rfl
  isplitl [H10]; · iexact H10
  iexact H5

/-- The decoded scales of a block, a quarter of what the bits denote. -/
def scales : S4x40x128.Idx → Elt Ideal .f32 := fun j =>
  Ideal.ofBits .f16 (X5 (ix2 (j 1) ⟨128 * (j 0).val + (j 2).val, by have h0 : (j 0).val < 4 := (j 0).isLt; have h2 : (j 2).val < 128 := (j 2).isLt; omega⟩)) * Ideal.ofBits .f32 0x3E800000#32

/-- The store of one of the four blocks. -/
theorem put_block (Y : S4x40x128.Idx → Elt Ideal .f32) (n : ℕ) (w : (⟨3, S1x40x128.size⟩ : Shape).Idx → Elt Ideal .f32) (x : Fin 4) (y : Fin 40) (z : Fin 128) :
    VecWindow.put Y ![n, 0, 0] S1x40x128.size w (ix3 x y z) = if x.val = n then w (ix3 0 y z) else Y (ix3 x y z) := by
  by_cases h : x.val = n
  · rw [if_pos h]
    have hj : ∀ a, (![n, 0, 0] : Fin 3 → ℕ) a ≤ ((ix3 x y z : S4x40x128.Idx) a).val ∧ ((ix3 x y z : S4x40x128.Idx) a).val < (![n, 0, 0] : Fin 3 → ℕ) a + S1x40x128.size a := fun a => by
      match a with
      | ⟨0, _⟩ => show n ≤ x.val ∧ x.val < n + 1; omega
      | ⟨1, _⟩ => show 0 ≤ y.val ∧ y.val < 0 + 40; omega
      | ⟨2, _⟩ => show 0 ≤ z.val ∧ z.val < 0 + 128; omega
    refine (dif_pos hj).trans (congrArg w ?_)
    funext a
    match a with
    | ⟨0, _⟩ => exact Fin.ext (show x.val - n = 0 by omega)
    | ⟨1, _⟩ => exact Fin.ext (show y.val - 0 = y.val by omega)
    | ⟨2, _⟩ => exact Fin.ext (show z.val - 0 = z.val by omega)
  · rw [if_neg h]
    refine dif_neg fun hj => h ?_
    have h0 : n ≤ x.val ∧ x.val < n + 1 := hj 0
    omega

theorem block_apply (n : ℕ) (hn : n < 4) (inb : ∀ a, (![0, 128 * n] : Fin 2 → ℕ) a + S40x128.size a ≤ S40x512.size a) (y : Fin 40) (z : Fin 128) :
    decodeBlock (bits X5 ![0, 128 * n] inb) (ix3 0 y z) = scales X5 (ix3 ⟨n, hn⟩ y z) := by
  rw [decodeBlock_apply, decode_eq]
  show Ideal.ofBits .f16 _ * _ = Ideal.ofBits .f16 _ * _
  refine congrArg (fun b => Ideal.ofBits .f16 b * _) (congrArg X5 ?_)
  funext a
  match a with
  | ⟨0, _⟩ => exact Fin.ext (show 0 + 1 * y.val = y.val by omega)
  | ⟨1, _⟩ => exact Fin.ext (show 128 * n + 1 * z.val = 128 * n + z.val by omega)

/-- The four blocks stored fill the scratch. -/
theorem puts_eq (Y : S4x40x128.Idx → Elt Ideal .f32) :
    VecWindow.put (VecWindow.put (VecWindow.put (VecWindow.put Y ![0, 0, 0] S1x40x128.size (decodeBlock (bits X5 ![0, 0] inb_S40x512_S40x128_0_0))) ![1, 0, 0] S1x40x128.size (decodeBlock (bits X5 ![0, 128] inb_S40x512_S40x128_0_128)))
      ![2, 0, 0] S1x40x128.size (decodeBlock (bits X5 ![0, 256] inb_S40x512_S40x128_0_256))) ![3, 0, 0] S1x40x128.size (decodeBlock (bits X5 ![0, 384] inb_S40x512_S40x128_0_384)) = scales X5 := by
  funext j
  obtain ⟨x, y, z, rfl⟩ : ∃ (x : Fin 4) (y : Fin 40) (z : Fin 128), j = ix3 x y z := ⟨j 0, j 1, j 2, eq_ix3 j⟩
  rw [put_block, put_block, put_block, put_block]
  fin_cases x
  · exact block_apply X5 0 (by decide) inb_S40x512_S40x128_0_0 y z
  · exact block_apply X5 1 (by decide) inb_S40x512_S40x128_0_128 y z
  · exact block_apply X5 2 (by decide) inb_S40x512_S40x128_0_256 y z
  · exact block_apply X5 3 (by decide) inb_S40x512_S40x128_0_384 y z

/-- The accumulator before trip `n`. -/
def partialSum (X8 : S5120x128.Idx → Elt Ideal .i32) (X10 : S4x40x128.Idx → Elt Ideal .f32) (n : ℕ) : S256x512.Idx → EReal := fun j =>
  ∑ t ∈ Finset.range n, if h : t < 10 then groupSum X1 X3 X4 X8 X10 ⟨t, h⟩ (j 0) (j 1) else 0

theorem partialSum_zero (X8 : S5120x128.Idx → Elt Ideal .i32) (X10 : S4x40x128.Idx → Elt Ideal .f32) :
    (k0_pay759 (F := Ideal) : S256x512.Idx → EReal) = partialSum X1 X3 X4 X8 X10 0 := by
  funext j
  show _ = ∑ t ∈ Finset.range 0, _
  rw [Finset.sum_range_zero]
  pointwise [k0_pay759]

theorem partialSum_succ (X8 : S5120x128.Idx → Elt Ideal .i32) (X10 : S4x40x128.Idx → Elt Ideal .f32) (k : Fin k0_t1_loop.trips) :
    (fun j => partialSum X1 X3 X4 X8 X10 k.val j + groupSum X1 X3 X4 X8 X10 (grp k) (j 0) (j 1)) = partialSum X1 X3 X4 X8 X10 (k.val + 1) := by
  funext j
  refine Eq.trans ?_ (Finset.sum_range_succ _ _).symm
  rw [dif_pos (trip_lt k)]
  rfl

theorem partialSum_ten (X8 : S5120x128.Idx → Elt Ideal .i32) (X10 : S4x40x128.Idx → Elt Ideal .f32) (j : S256x512.Idx) :
    partialSum X1 X3 X4 X8 X10 10 j = ∑ t : Fin 10, groupSum X1 X3 X4 X8 X10 t (j 0) (j 1) := by
  refine (Finset.sum_range _).trans (Finset.sum_congr rfl fun t _ => ?_)
  rw [dif_pos t.isLt]

theorem trips_eq : k0_t1_loop.trips = 10 := by decide

set_option maxRecDepth 100000 in
/-- The loop adds up the groups. -/
theorem loop_runs (X8 : S5120x128.Idx → Elt Ideal .i32) (X10 : S4x40x128.Idx → Elt Ideal .f32) :
    iprop((Kept arg3 arg4 sc1 sc3 X3 X4 X8 X10 c ∗ Any c sc2 ∗ Any c sc4) ∗ Own c arg1 X1 ∗ Any c sc5 ∗ Own c sc6 (partialSum X1 X3 X4 X8 X10 0))
      ⊢ Runs Variants.none c none Set.univ (Scf.Loop.for k0_t1_loop k0_t1_ok ⟨⟩ (k0_t1_body (F := Ideal) i arg1 harg1 hbM (Memref.isWhole_whole _) arg3 harg3 arg4 harg4 arg5 harg5 arg6 harg6 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0)) (fun _ =>
        iprop((Kept arg3 arg4 sc1 sc3 X3 X4 X8 X10 c ∗ Any c sc2 ∗ Any c sc4) ∗ Own c arg1 X1 ∗ Any c sc5 ∗ Own c sc6 (partialSum X1 X3 X4 X8 X10 10))) := by
  refine BIBase.Entails.trans ?_ (Scf.wp_for frame (wpE (defs₀ (F := Ideal)) Variants.none (c : Thread nD τ) none) Set.univ k0_t1_loop.lb k0_t1_loop.ub k0_t1_loop.st k0_t1_ok
    PUnit.unit (k0_t1_body (F := Ideal) i arg1 harg1 hbM (Memref.isWhole_whole _) arg3 harg3 arg4 harg4 arg5 harg5 arg6 harg6 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0)
    (fun n _ => iprop((Kept arg3 arg4 sc1 sc3 X3 X4 X8 X10 c ∗ Any c sc2 ∗ Any c sc4) ∗ Own c arg1 X1 ∗ Any c sc5 ∗ Own c sc6 (partialSum X1 X3 X4 X8 X10 n)))
    (fun k acc => by
      rw [← partialSum_succ, show acc = PUnit.unit from rfl, region_eq]
      exact region_runs arg1 arg3 arg4 sc1 sc2 sc3 sc4 _ sc5 _ sc6 k X1 X3 X4 X8 X10 _))
  rw [show Scf.trips k0_t1_loop.lb k0_t1_loop.ub k0_t1_loop.st = 10 from trips_eq]
  iintro H
  isplitl [H]; · iexact H
  iintro %acc H
  iexact H

/-- What the body leaves in its result block. -/
def blockOut : S256x512.Idx → Elt Ideal .bf16 := fun j =>
  ∑ t : Fin 10, groupSum X1 X3 X4 (slabWords c i fh) (scales X5) t (j 0) (j 1)

theorem out_eq : k0_pay3 (F := Ideal) (partialSum X1 X3 X4 (slabWords c i fh) (scales X5) 10) = blockOut c i X1 X3 X4 X5 fh := by
  funext j
  refine Eq.trans ?_ (partialSum_ten X1 X3 X4 (slabWords c i fh) (scales X5) j)
  pointwise [k0_pay3]

set_option maxHeartbeats 4000000 in
set_option maxRecDepth 100000 in
/-- The body's triple: from the operands' blocks at known contents and the packed low bits in HBM, the result block at the sum of the
    groups; the operands kept, the scratch at anything. -/
theorem body_runs (W : Waits sig Unit) (K : PUnit → sProp 𝕄) :
    iprop(Own c arg1 X1 ∗ Own c arg3 X3 ∗ Own c arg4 X4 ∗ Own c arg5 X5 ∗ Any c arg6 ∗ Any c sc0 ∗ Any c sc1 ∗ Any c sc2 ∗ Any c sc3 ∗ Any c sc4 ∗ Any c sc5 ∗ Any c sc6
        ∗ semVal ((c : Thread nD τ), SemLoc.dma 9) 0 ∗ hbPt c hbM fh
        ∗ owes (c : Thread nD τ) 0 W
        ∗ (iprop(Own c arg1 X1 ∗ Own c arg3 X3 ∗ Own c arg4 X4 ∗ Own c arg5 X5 ∗ Own c arg6 (blockOut c i X1 X3 X4 X5 fh) ∗ Any c sc0 ∗ Any c sc1 ∗ Any c sc2 ∗ Any c sc3 ∗ Any c sc4 ∗ Any c sc5 ∗ Any c sc6
              ∗ semVal ((c : Thread nD τ), SemLoc.dma 9) 0 ∗ hbPt c hbM fh
              ∗ ∃ W', owes (c : Thread nD τ) 0 W') -∗ K ⟨⟩))
      ⊢ Runs Variants.none c none Set.univ (cc0_q6k_linear (F := Ideal) i arg1 harg1 hbM (Memref.isWhole_whole _) arg3 harg3 arg4 harg4 arg5 harg5 arg6 harg6 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0) K := by
  rw [cc0_q6k_linear_eq_skeleton]; unfold cc0_q6k_linear_skel
  iintro ⟨H1, H3, H4, H5, ⟨%Y6, H6⟩, H7, H8, H9, ⟨%Y10, H10⟩, H11, H12, H13, Hq, Hh, HW, Hk⟩
  iapply (runs_then _ _ _ (part153_runs c i arg1 harg1 arg3 harg3 arg4 harg4 arg5 harg5 arg6 harg6 X5 fh W))
  isplitl [H7 H8 H13 H5 Hq Hh HW]
  · isplitl [H7]; · iexact H7
    isplitl [H8]; · iexact H8
    isplitl [H13]; · iexact H13
    isplitl [H5]; · iexact H5
    isplitl [Hq]; · iexact Hq
    isplitl [Hh]; · iexact Hh
    iexact HW
  iintro %v ⟨%hv, H7, H8, H13, H5, Hq, Hh, HW⟩
  subst hv
  iapply (runs_then _ _ _ (part154_runs c i arg1 harg1 arg3 harg3 arg4 harg4 arg5 harg5 arg6 harg6 X5 Y10 _ _ _ _ _))
  isplitl [H10 H5]
  · isplitl [H10]; · iexact H10
    iexact H5
  iintro %v ⟨%hv, H10, H5⟩
  subst hv
  iapply (runs_then _ _ _ (part155_runs c i arg1 harg1 arg3 harg3 arg4 harg4 arg5 harg5 arg6 harg6 X5 _ _ _ _))
  isplitl [H10 H5]
  · isplitl [H10]; · iexact H10
    iexact H5
  iintro %v ⟨%hv, H10, H5⟩
  subst hv
  iapply (runs_then _ _ _ (part157_runs c i arg1 harg1 arg3 harg3 arg4 harg4 arg5 harg5 arg6 harg6 X5 _ _))
  isplitl [H10 H5]
  · isplitl [H10]; · iexact H10
    iexact H5
  iintro %v ⟨%hv, H10, H5⟩
  subst hv
  iapply (load_rule Variants.none none Set.univ sc3 _ _ _ _ _)
  isplitl [H10]; · iexact H10
  iintro H10
  iapply (store_bind Variants.none none Set.univ sc3 _ _ _ _ _ _ _ _ _)
  isplitl [H10]; · iexact H10
  iintro H10
  ihave H10 := (show _ ⊢ Own c sc3 (scales X5) from by rw [← puts_eq X5 Y10]; exact .rfl) $$ H10
  rw [partialSum_zero X1 X3 X4 (slabWords c i fh) (scales X5)]
  iapply (runs_then _ _ _ (loop_runs c i arg1 harg1 arg3 harg3 arg4 harg4 arg5 harg5 arg6 harg6 X1 X3 X4 (slabWords c i fh) (scales X5)))
  isplitl [H1 H3 H4 H8 H9 H10 H11 H12 H13]
  · isplitl [H3 H4 H8 H9 H10 H11]
    · isplitl [H3 H4 H8 H10]
      · isplitl [H10]; · iexact H10
        isplitl [H4]; · iexact H4
        isplitl [H8]; · iexact H8
        iexact H3
      isplitl [H9]; · iexact H9
      iexact H11
    isplitl [H1]; · iexact H1
    isplitl [H12]; · iexact H12
    iexact H13
  iintro %v ⟨⟨⟨H10, H4, H8, H3⟩, H9, H11⟩, H1, H12, H13⟩
  iapply (load_rule Variants.none none Set.univ sc6 _ _ _ _ _)
  isplitl [H13]; · iexact H13
  iintro H13
  iapply (load_rule Variants.none none Set.univ arg6 _ _ _ _ _)
  isplitl [H6]; · iexact H6
  iintro H6
  iapply (store_bind Variants.none none Set.univ arg6 _ _ _ _ _ _ _ _ _)
  isplitl [H6]; · iexact H6
  iintro H6
  rw [put_whole (S := S256x512) _ _ _ (by decide), load_whole (S := S256x512) _ _ (by decide), out_eq]
  iapply (le_wp_ret frame (wpE (defs₀ (F := Ideal)) Variants.none (c : Thread nD τ) none) Set.univ _ _)
  iapply Hk
  isplitl [H1]; · iexact H1
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [H11]; · iexact H11
  isplitl [H12]; · iexact H12
  isplitl [H13]; · iexists _; iexact H13
  isplitl [Hq]; · iexact Hq
  isplitl [Hh]; · iexact Hh
  iexact HW

end Cert.KernelIdeal.Value
-- ==== Proof.ValueRun.lean ====
/-
The runs of `KernelIdeal`, with the result named: every block of the result array is the sum over the ten groups of
super-blocks (`blockOut`) of the operands' blocks.
-/
module

public import proofs.«01_k».proof.Proof.BodyRun

@[expose] public section

noncomputable section

namespace Cert.KernelIdeal.Value

open Cert.KernelIdeal Cert.KernelIdeal.Gen Cert.KernelIdeal.Rolled Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (Pipeline.UD sig nD τ) ℕ

variable (m : (ℓ : Loc nD τ sig) → Buf (Elt Ideal) ℓ) (ρ : Dev nD → PrngReg)

/-- What the body leaves in its result block at point `t`. -/
def outAt (c : Dev nD) (t : Fin cfg0.N) : S256x512.Idx → Elt Ideal .bf16 :=
  blockOut c (grid0.coords t) (iblk m c 0 t) (iblk m c 1 t) (iblk m c 2 t) (iblk m c 3 t) (V m c main_v4)

/-- The proof data on core `c`: the operands' windows keep their blocks, the result's ends each point at `outAt`. -/
def vdats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦD osem0 spec0 H0 (V m) c
  q _ := fullShare
  owed _ := 0

theorem vA_eq (c : Dev nD) (w : Fin cfg0.W) : (vdats m 0 c).A w = V m c (Pipeline.arrRef spec0 w) := by dsimp only [vdats]
theorem after_0 (c : Dev nD) (t : Fin cfg0.N) : (vdats m 0 c).after 0 t = iblk m c 0 t := by dsimp only [vdats]
theorem after_1 (c : Dev nD) (t : Fin cfg0.N) : (vdats m 0 c).after 1 t = iblk m c 1 t := by dsimp only [vdats]
theorem after_2 (c : Dev nD) (t : Fin cfg0.N) : (vdats m 0 c).after 2 t = iblk m c 2 t := by dsimp only [vdats]
theorem after_3 (c : Dev nD) (t : Fin cfg0.N) : (vdats m 0 c).after 3 t = iblk m c 3 t := by dsimp only [vdats]
theorem after_4 (c : Dev nD) (t : Fin cfg0.N) : (vdats m 0 c).after 4 t = outAt m c t := by dsimp only [vdats]

theorem before_0 (c : Dev nD) (t : Fin cfg0.N) (d) : (vdats m 0 c).before 0 t d = iblk m c 0 t :=
  ((vdats m 0 c).before_in_eq_fetched 0 rfl (fun _ => rfl) (fun _ _ _ => rfl) (fun t => by rw [after_0]; unfold Dat.blockOf iblk; rw [vA_eq]; try rfl) t d).trans
    (by unfold Dat.fetched Dat.blockOf iblk; rw [vA_eq]; try rfl)
theorem before_1 (c : Dev nD) (t : Fin cfg0.N) (d) : (vdats m 0 c).before 1 t d = iblk m c 1 t :=
  ((vdats m 0 c).before_in_eq_fetched 1 rfl (fun _ => rfl) (fun _ _ _ => rfl) (fun t => by rw [after_1]; unfold Dat.blockOf iblk; rw [vA_eq]; try rfl) t d).trans
    (by unfold Dat.fetched Dat.blockOf iblk; rw [vA_eq]; try rfl)
theorem before_2 (c : Dev nD) (t : Fin cfg0.N) (d) : (vdats m 0 c).before 2 t d = iblk m c 2 t :=
  ((vdats m 0 c).before_in_eq_fetched 2 rfl (fun _ => rfl) (fun _ _ _ => rfl) (fun t => by rw [after_2]; unfold Dat.blockOf iblk; rw [vA_eq]; try rfl) t d).trans
    (by unfold Dat.fetched Dat.blockOf iblk; rw [vA_eq]; try rfl)
theorem before_3 (c : Dev nD) (t : Fin cfg0.N) (d) : (vdats m 0 c).before 3 t d = iblk m c 3 t :=
  ((vdats m 0 c).before_in_eq_fetched 3 rfl (fun _ => rfl) (fun _ _ _ => rfl) (fun t => by rw [after_3]; unfold Dat.blockOf iblk; rw [vA_eq]; try rfl) t d).trans
    (by unfold Dat.fetched Dat.blockOf iblk; rw [vA_eq]; try rfl)

/-- What the body is called with at point `t`. -/
def vbodyPre (c : Dev nD) (t : Fin cfg0.N) : sProp 𝕄 :=
  iprop((vdats m 0 c).Φ t.castSucc ∗ (vdats m 0 c).owesAt () t.castSucc
    ∗ (∃ d, owns (c : Thread nD τ) (ms0 t) fullShare ((vdats m 0 c).before 0 t d))
    ∗ (∃ d, owns (c : Thread nD τ) (ms1 t) fullShare ((vdats m 0 c).before 1 t d))
    ∗ (∃ d, owns (c : Thread nD τ) (ms2 t) fullShare ((vdats m 0 c).before 2 t d))
    ∗ (∃ d, owns (c : Thread nD τ) (ms3 t) fullShare ((vdats m 0 c).before 3 t d))
    ∗ (∃ d, owns (c : Thread nD τ) (ms4 t) fullShare ((vdats m 0 c).before 4 t d)))
/-- What it returns. -/
def vbodyPost (c : Dev nD) (t : Fin cfg0.N) : sProp 𝕄 :=
  iprop((vdats m 0 c).Φ t.succ ∗ (vdats m 0 c).owesAt () t.succ
    ∗ owns (c : Thread nD τ) (ms0 t) fullShare ((vdats m 0 c).after 0 t)
    ∗ owns (c : Thread nD τ) (ms1 t) fullShare ((vdats m 0 c).after 1 t)
    ∗ owns (c : Thread nD τ) (ms2 t) fullShare ((vdats m 0 c).after 2 t)
    ∗ owns (c : Thread nD τ) (ms3 t) fullShare ((vdats m 0 c).after 3 t)
    ∗ owns (c : Thread nD τ) (ms4 t) fullShare ((vdats m 0 c).after 4 t))

/-- The body at a point. -/
theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  simp only [before_0, before_1, before_2, before_3, after_0, after_1, after_2, after_3, after_4]
  rw [show (vdats m 0 c).Φ t.succ = (vdats m 0 c).Φ t.castSucc from rfl,
    show (vdats m 0 c).owesAt () t.succ = (vdats m 0 c).owesAt () t.castSucc from rfl,
    show (vdats m 0 c).Φ t.castSucc = Pipeline.ΦD osem0 spec0 H0 (V m) c from rfl, PhiD0_eq]
  unfold Dat.owesAt Pipeline.owesWithin
  rw [show (vdats m 0 c).owed t.castSucc = 0 from rfl]
  iintro ⟨⟨⟨H7, H8, H9, H10, H11, H12, H13⟩, Hg, Hq, Hh⟩, ⟨%W, %hW, HO⟩, ⟨%d1, H1⟩, ⟨%d3, H3⟩, ⟨%d4, H4⟩, ⟨%d5, H5⟩, ⟨%d6, H6⟩⟩
  iapply (body_runs c (grid0.coords t) (ms0 t) (hs0 t) (ms1 t) (hs1 t) (ms2 t) (hs2 t) (ms3 t) (hs3 t) (ms4 t) (hs4 t)
    (iblk m c 0 t) (iblk m c 1 t) (iblk m c 2 t) (iblk m c 3 t) (V m c main_v4) W _)
  isplitl [H1]; · iexact H1
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hq]; · iexact Hq
  isplitl [Hh]; · iexact Hh
  isplitl [HO]; · iexact HO
  iintro ⟨H1, H3, H4, H5, H6, H7, H8, H9, H10, H11, H12, H13, Hq, Hh, ⟨%W', HO⟩⟩
  isplitl [H7 H8 H9 H10 H11 H12 H13 Hg Hq Hh]
  · isplitl [H7 H8 H9 H10 H11 H12 H13]
    · isplitl [H7]; · iexact H7
      isplitl [H8]; · iexact H8
      isplitl [H9]; · iexact H9
      isplitl [H10]; · iexact H10
      isplitl [H11]; · iexact H11
      isplitl [H12]; · iexact H12
      iexact H13
    isplitl [Hg]; · iexact Hg
    isplitl [Hq]; · iexact Hq
    iexact Hh
  isplitl [HO]
  · iexists W'; isplitr; · ipureintro; exact fun _ _ => Or.inl trivial
    iexact HO
  isplitl [H1]; · iexact H1
  isplitl [H3]; · iexact H3
  isplitl [H4]; · iexact H4
  isplitl [H5]; · iexact H5
  iexact H6

/-- The body obligation at the named blocks. -/
theorem vbody_obligation (c : Dev nD) :
    BodyObligation (vdats m 0 c) (defs₀ (F := Ideal)) Variants.none () Set.univ := fun t => by
  rw [bigSep_W0, bigSep_W0, defs₀_row]
  exact triple_restated (vsound_body m c t) rfl .rfl fun _ => .rfl

set_option backward.isDefEq.respectTransparency.types false in
/-- Every execution of @main terminates, with the arrays of the windows at what the proof data say, every other buffer as the
    line after the region leaves it, and every semaphore counter at zero. -/
theorem vrun_main :
    θ_run defs (onTc (τ := τ) (main (F := Ideal))) (s₀ m ρ)
      (fun r => Pipeline.FramePost cfgs (vdats m) 0 (Pipeline.afterTail₀ cfgs (vdats m) 0 (V0 m) [hostOps1]) r ∧ r.2.sem = fun _ => 0) :=
  Pipeline.θ_run_frame_dma_around (Q' := _) cfgs (vdats m) (0 : Fin 1) launch0 osem0 defs₀ Variants.none ownSemFacts0 H0 H0_sub m ρ main
    (hbody := fun c => (vbody_obligation m c).loose) (hshare := fun c => (vdats m 0 c).share_full fun _ => rfl)
    (howed := fun _ _ => rfl) (V₀ := V0 m) (opss := [hostOps1]) (hsub := sfx_subBut) (hfresh := sfx_fresh) (hkeep := sfx_keeps)
    (hmain := hmainD m Variants.none) (hA := vA_eq m)
    (hin := fun _ => .rfl) (hout := fun _ => .rfl)

end Cert.KernelIdeal.Value
-- ==== Proof.Spec.lean ====
/-
What both programs compute, over the extended reals: each activation row times each six-bit weight row. A weight row has
forty super-blocks of 256 elements, in four fields of 64; a field's sixteen-element sub-blocks have an integer scale each,
a super-block one half-precision scale.
-/
module

public import proofs.«01_k».proof.Proof.Codes

@[expose] public section

noncomputable section

namespace Cert.Spec

open Idealize.ShloMosaic
open Cert.KernelIdeal.Value (code)

variable (x : (⟨3, ![256, 1, 10240]⟩ : Shape).Idx → EReal) (ql : (⟨3, ![7168, 40, 128]⟩ : Shape).Idx → BitVec 8)
  (qh : (⟨3, ![7168, 40, 64]⟩ : Shape).Idx → BitVec 8) (sc : (⟨3, ![7168, 40, 16]⟩ : Shape).Idx → BitVec 8)
  (d : (⟨2, ![7168, 40]⟩ : Shape).Idx → BitVec 16)

/-- The scale of sub-block `q` of super-block `b` of row `o`: the half-precision scale times the integer one. -/
def scale (o : Fin 7168) (b : Fin 40) (q : Fin 16) : EReal :=
  Ideal.ofBits .f16 (d (ix2 o b)) * (((sc (ix3 o b q)).toInt : ℝ) : EReal)

/-- The weight at element `e` of field `t` of super-block `b` of row `o`: the code less 32, times its sub-block's scale. The
    code's low four bits are a nibble of `ql`, its high two a field of `qh`. -/
def weight (o : Fin 7168) (b : Fin 40) (t : Fin 4) (e : Fin 64) : EReal :=
  ((code (ql (ix3 o b ⟨64 * (t.val % 2) + e.val, by omega⟩)) (qh (ix3 o b e)) ⟨t.val / 2, by omega⟩ t : ℝ) : EReal)
    * scale sc d o b ⟨4 * t.val + e.val / 16, by omega⟩

/-- The result at row `m` and column `o`: the sum over super-blocks, fields and elements. -/
def entry (m : Fin 256) (o : Fin 7168) : EReal :=
  ∑ b : Fin 40, ∑ t : Fin 4, ∑ e : Fin 64, x (ix3 m 0 ⟨256 * b.val + 64 * t.val + e.val, by omega⟩) * weight ql qh sc d o b t e

/-- The result array. -/
def result : (⟨3, ![256, 1, 7168]⟩ : Shape).Idx → EReal := fun i => entry x ql qh sc d (i 0) (i 2)

end Cert.Spec
-- ==== Proof.Blocks.lean ====
/-
What the blocks hold that the kernel works on, as elements of the arguments: the activations whole, and for a point's 512
columns the fields, the integer scales, the half-precision scales, and the words of the packed bytes. And what the result
is after the region: the region's result array, reshaped.
-/
module
public import proofs.«01_k».proof.Proof.ValueRun
public import Idealize.ShloMosaic.Lib.Claim
public import Idealize.ShloMosaic.Lib.StableHlo.RunRead
public import proofs.«01_k».proof.Proof.Spec
@[expose] public section
noncomputable section
namespace Cert.KernelIdeal.Value
open Cert.KernelIdeal Cert.KernelIdeal.Gen
open Idealize.ShloMosaic Idealize.ShloMosaic.TcCoe Idealize.SL.Sem
variable (m : (ℓ : Loc nD τ sig) → Buf (Elt Ideal) ℓ) (ρ : Dev nD → PrngReg)

/-- A buffer that neither the region nor the line after it writes ends as the region finds it. -/
theorem tail_other (c : Dev nD) (b : Ref sig .tc) (h6 : b ≠ main_v6) (hw : ∀ w, Pipeline.arrRef spec0 w ≠ b) :
    Pipeline.afterTail₀ cfgs (vdats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h6)),
    Pipeline.withArrays_of_ne _ c (V0 m c) _ b hw]

/-- The result is the region's result array, reshaped. -/
theorem tail_result (c : Dev nD) :
    Pipeline.afterTail₀ cfgs (vdats m) 0 (V0 m) [hostOps1] c main_v6
      = shapeCast S256x1x7168 ((vdats m 0 c).arrAt 4 cfg0.N) shapeCasts_S256x7168_S256x1x7168 := by
  unfold Pipeline.afterTail₀
  simp only [hostOps1, List.flatten_cons, List.flatten_nil, List.append_nil, StableHlo.after_cons, StableHlo.after_nil]
  rw [StableHlo.reshape_result]
  exact congrArg (fun A : S256x7168.Idx → EReal => shapeCast S256x1x7168 A shapeCasts_S256x7168_S256x1x7168)
    (Pipeline.withArrays_arr spec0 (by decide : Function.Injective (Pipeline.arrRef spec0)) c (V0 m c) (fun w => (vdats m 0 c).arrAt w cfg0.N) 4)
/-- The activations as the region finds them. -/
theorem V_v0 (c : Dev nD) : V m c main_v0 = shapeCast S256x10240 (m ((c : Thread nD τ).loc main_arg0)) shapeCasts_S256x1x10240_S256x10240 := by
  unfold_abbrev_sides
  simp only [hostOps0, List.flatten_cons, List.flatten_nil, List.append_nil]
  after_reads_simp
  rfl
/-- The high-bit fields as the region finds them. -/
theorem V_v1 (c : Dev nD) : V m c main_v1 = transpose S40x64x7168 [1, 2, 0] (m ((c : Thread nD τ).loc main_arg2)) transposes_S7168x40x64_S40x64x7168_1_2_0 := by
  unfold_abbrev_sides
  simp only [hostOps0, List.flatten_cons, List.flatten_nil, List.append_nil]
  after_reads_simp
/-- The integer scales as the region finds them. -/
theorem V_v2 (c : Dev nD) : V m c main_v2 = transpose S40x16x7168 [1, 2, 0] (m ((c : Thread nD τ).loc main_arg3)) transposes_S7168x40x16_S40x16x7168_1_2_0 := by
  unfold_abbrev_sides
  simp only [hostOps0, List.flatten_cons, List.flatten_nil, List.append_nil]
  after_reads_simp
/-- The half-precision scales as the region finds them. -/
theorem V_v3 (c : Dev nD) : V m c main_v3 = transpose S40x7168 [1, 0] (m ((c : Thread nD τ).loc main_arg4)) transposes_S7168x40_S40x7168_1_0 := by
  unfold_abbrev_sides
  simp only [hostOps0, List.flatten_cons, List.flatten_nil, List.append_nil]
  after_reads_simp
/-- The packed bytes as the region finds them. -/
theorem V_v4 (c : Dev nD) : V m c main_v4 = shapeCast S286720x128 (m ((c : Thread nD τ).loc main_arg1)) shapeCasts_S7168x40x128_S286720x128 := by
  unfold_abbrev_sides
  simp only [hostOps0, List.flatten_cons, List.flatten_nil, List.append_nil]
  after_reads_simp
  rfl

/-- A point of the grid is its own coordinate. -/
theorem coords_val : ∀ t : Fin cfg0.N, (grid0.coords t 0).val = t.val := (by decide +kernel : ∀ t : Fin grid0.N, _)
/-- The activations' block index. -/
theorem index0 : ∀ t : Fin cfg0.N, win0_0.index t (0 : Fin 2) = 0 ∧ win0_0.index t (1 : Fin 2) = 0 := (by decide +kernel : ∀ t : Fin grid0.N, _)
/-- The fields' block index. -/
theorem index1 : ∀ t : Fin cfg0.N, win0_1.index t (0 : Fin 3) = 0 ∧ win0_1.index t (1 : Fin 3) = 0 ∧ win0_1.index t (2 : Fin 3) = t.val := (by decide +kernel : ∀ t : Fin grid0.N, _)
/-- The integer scales' block index. -/
theorem index2 : ∀ t : Fin cfg0.N, win0_2.index t (0 : Fin 3) = 0 ∧ win0_2.index t (1 : Fin 3) = 0 ∧ win0_2.index t (2 : Fin 3) = t.val := (by decide +kernel : ∀ t : Fin grid0.N, _)
/-- The half-precision scales' block index. -/
theorem index3 : ∀ t : Fin cfg0.N, win0_3.index t (0 : Fin 2) = 0 ∧ win0_3.index t (1 : Fin 2) = t.val := (by decide +kernel : ∀ t : Fin grid0.N, _)
/-- The result's block index. -/
theorem index4 : ∀ t : Fin cfg0.N, win0_4.index t (0 : Fin 2) = 0 ∧ win0_4.index t (1 : Fin 2) = t.val := (by decide +kernel : ∀ t : Fin grid0.N, _)

/-- The grid has fourteen points. -/
theorem points (t : Fin cfg0.N) : t.val < 14 := by have := t.isLt; exact (by decide : cfg0.N = 14) ▸ this

/-- The activations' block is the whole array. -/
theorem block0 (c : Dev nD) (t : Fin cfg0.N) (p : Fin 256) (k : Fin 10240) :
    iblk m c 0 t (ix2 p k) = m ((c : Thread nD τ).loc main_arg0) (ix3 p 0 k) := by
  obtain ⟨e0, e1⟩ := index0 t
  show V m c main_v0 (((cfg0.win 0).blk t).view.emb (ix2 p k)) = _
  rw [show ((cfg0.win 0).blk t).view.emb (ix2 p k) = ix2 p k from funext fun a => Fin.ext (match a with
    | ⟨0, _⟩ => by show win0_0.index t (0 : Fin 2) * 256 + 1 * p.val = p.val; omega
    | ⟨1, _⟩ => by show win0_0.index t (1 : Fin 2) * 10240 + 1 * k.val = k.val; omega), V_v0]
  refine shapeCast_apply _ _ _ (ix3 p 0 k) ?_
  rw [Shape.rowMajor_val_three, Shape.rowMajor_val_two]
  show (p.val * 1 + 0) * 10240 + k.val = p.val * 10240 + k.val
  omega

/-- The fields' block at a point. -/
theorem block1 (c : Dev nD) (t : Fin cfg0.N) (b : Fin 40) (p : Fin 64) (j : Fin 512) :
    iblk m c 1 t (ix3 b p j) = m ((c : Thread nD τ).loc main_arg2) (ix3 ⟨512 * t.val + j.val, by have := points t; omega⟩ b p) := by
  obtain ⟨e0, e1, e2⟩ := index1 t
  have := points t
  show V m c main_v1 (((cfg0.win 1).blk t).view.emb (ix3 b p j)) = _
  rw [show ((cfg0.win 1).blk t).view.emb (ix3 b p j) = ix3 b p ⟨512 * t.val + j.val, by omega⟩ from funext fun a => Fin.ext (match a with
    | ⟨0, _⟩ => by show win0_1.index t (0 : Fin 3) * 40 + 1 * b.val = b.val; omega
    | ⟨1, _⟩ => by show win0_1.index t (1 : Fin 3) * 64 + 1 * p.val = p.val; omega
    | ⟨2, _⟩ => by show win0_1.index t (2 : Fin 3) * 512 + 1 * j.val = 512 * t.val + j.val; omega), V_v1]
  pointwise

/-- The integer scales' block at a point. -/
theorem block2 (c : Dev nD) (t : Fin cfg0.N) (b : Fin 40) (p : Fin 16) (j : Fin 512) :
    iblk m c 2 t (ix3 b p j) = m ((c : Thread nD τ).loc main_arg3) (ix3 ⟨512 * t.val + j.val, by have := points t; omega⟩ b p) := by
  obtain ⟨e0, e1, e2⟩ := index2 t
  have := points t
  show V m c main_v2 (((cfg0.win 2).blk t).view.emb (ix3 b p j)) = _
  rw [show ((cfg0.win 2).blk t).view.emb (ix3 b p j) = ix3 b p ⟨512 * t.val + j.val, by omega⟩ from funext fun a => Fin.ext (match a with
    | ⟨0, _⟩ => by show win0_2.index t (0 : Fin 3) * 40 + 1 * b.val = b.val; omega
    | ⟨1, _⟩ => by show win0_2.index t (1 : Fin 3) * 16 + 1 * p.val = p.val; omega
    | ⟨2, _⟩ => by show win0_2.index t (2 : Fin 3) * 512 + 1 * j.val = 512 * t.val + j.val; omega), V_v2]
  pointwise

/-- The half-precision scales' block at a point. -/
theorem block3 (c : Dev nD) (t : Fin cfg0.N) (b : Fin 40) (j : Fin 512) :
    iblk m c 3 t (ix2 b j) = m ((c : Thread nD τ).loc main_arg4) (ix2 ⟨512 * t.val + j.val, by have := points t; omega⟩ b) := by
  obtain ⟨e0, e1⟩ := index3 t
  have := points t
  show V m c main_v3 (((cfg0.win 3).blk t).view.emb (ix2 b j)) = _
  rw [show ((cfg0.win 3).blk t).view.emb (ix2 b j) = ix2 b ⟨512 * t.val + j.val, by omega⟩ from funext fun a => Fin.ext (match a with
    | ⟨0, _⟩ => by show win0_3.index t (0 : Fin 2) * 40 + 1 * b.val = b.val; omega
    | ⟨1, _⟩ => by show win0_3.index t (1 : Fin 2) * 512 + 1 * j.val = 512 * t.val + j.val; omega), V_v3]
  pointwise

/-- The packed bytes as the kernel holds them: one super-block of one weight row to a row. -/
theorem packed_row (x : S7168x40x128.Idx → BitVec 8) (o : Fin 7168) (b : Fin 40) (l : Fin 128) (p : Fin 286720) (h : p.val = 40 * o.val + b.val) :
    shapeCast S286720x128 x shapeCasts_S7168x40x128_S286720x128 (ix2 p l) = x (ix3 o b l) := by
  refine shapeCast_apply _ _ _ _ ?_
  rw [Shape.rowMajor_val_three, Shape.rowMajor_val_two]
  show (o.val * 40 + b.val) * 128 + l.val = p.val * 128 + l.val
  omega

/-- A slab's rows are the array's rows from its start. -/
theorem slab_row (c : Dev nD) (t : Fin cfg0.N) (fh : Buf (Elt Ideal) ((c : Thread nD τ).loc main_v4)) (p : Fin 20480) (l : Fin 128) (p' : Fin 286720)
    (h : p'.val = 20480 * t.val + p.val) : slab c (grid0.coords t) fh (ix2 p l) = (fh : S286720x128.Idx → BitVec 8) (ix2 p' l) := by
  have e := coords_val t
  have e' := k0_off1_eq (grid0.coords t)
  unfold slab
  show (fh : S286720x128.Idx → BitVec 8) _ = _
  refine congrArg _ (funext fun a => Fin.ext (match a with
      | ⟨0, _⟩ => ?_
      | ⟨1, _⟩ => ?_))
  · show k0_off1 (grid0.coords t) 0 + 1 * p.val = p'.val
    rw [e']
    show 20480 * (grid0.coords t 0).val + 1 * p.val = p'.val
    omega
  · show k0_off1 (grid0.coords t) 1 + 1 * l.val = l.val
    rw [e']
    show 0 + 1 * l.val = l.val
    omega

/-- The words of a slab: a word's bytes are the packed bytes of four super-blocks of one row. -/
theorem slabWords_byte (c : Dev nD) (t : Fin cfg0.N) (w : Fin 5120) (l : Fin 128) (n : Fin 4) (j : Fin 512) (b : Fin 40) (h : 40 * j.val + b.val = 4 * w.val + n.val) :
    byte n (slabWords c (grid0.coords t) (V m c main_v4) (ix2 w l))
      = m ((c : Thread nD τ).loc main_arg1) (ix3 ⟨512 * t.val + j.val, by have := points t; omega⟩ b l) := by
  have := points t
  unfold slabWords k0_pay758
  refine (congrArg (byte n) (congrFun (shapeCast_self _ _) (ix2 w l))).trans ?_
  refine (bitcast_words _ _ w l n ⟨4 * w.val + n.val, by omega⟩ rfl).trans ?_
  refine (slab_row c t _ _ l ⟨20480 * t.val + (4 * w.val + n.val), by omega⟩ rfl).trans ?_
  rw [V_v4]
  exact packed_row _ _ b l _ (by show 20480 * t.val + (4 * w.val + n.val) = 40 * (512 * t.val + j.val) + b.val; omega)

end Cert.KernelIdeal.Value
-- ==== Proof.KernelValue.lean ====
/-
The kernel's result array as a function of its arguments: each element is the sum that `Spec` states.
-/
module

public import proofs.«01_k».proof.Proof.Blocks

@[expose] public section

noncomputable section

namespace Cert.KernelIdeal.Value

open Cert.KernelIdeal Cert.KernelIdeal.Gen Cert.Spec
open Idealize.ShloMosaic Idealize.ShloMosaic.TcCoe Idealize.SL.Sem

/-! ## Sums -/

/-- A sum over `a * b` indices, by blocks of `b`. -/
theorem sum_blocks {M : Type} [AddCommMonoid M] {n : ℕ} (a b : ℕ) (h : n = a * b) (f : Fin n → M) :
    ∑ i, f i = ∑ x : Fin a, ∑ y : Fin b, f ⟨b * x.val + y.val, by
      have hx := x.isLt; have hy := y.isLt
      have : b * (x.val + 1) ≤ b * a := Nat.mul_le_mul_left b hx
      rw [Nat.mul_add, Nat.mul_one, Nat.mul_comm b a] at this; omega⟩ := by
  subst h
  rw [← Fintype.sum_prod_type' (f := fun (x : Fin a) (y : Fin b) => f ⟨b * x.val + y.val, _⟩)]
  refine (Fintype.sum_equiv finProdFinEquiv _ _ fun xy => congrArg f (Fin.ext ?_)).symm
  show b * xy.1.val + xy.2.val = xy.2.val + b * xy.1.val
  omega

/-- The sum over ten groups of 1024 is the sum over forty super-blocks, their four fields, and the fields' 64 elements. -/
theorem sum_groups {M : Type} [AddCommMonoid M] (g : Fin 40 → Fin 4 → Fin 64 → M) :
    ∑ k : Fin 10, ∑ r : Fin 1024, g ⟨4 * k.val + r.val / 256, by omega⟩ ⟨r.val / 64 % 4, by omega⟩ ⟨r.val % 64, by omega⟩
      = ∑ b : Fin 40, ∑ t : Fin 4, ∑ e : Fin 64, g b t e := by
  rw [sum_blocks 10 4 rfl (fun b => ∑ t : Fin 4, ∑ e : Fin 64, g b t e)]
  refine Finset.sum_congr rfl fun k _ => ?_
  rw [sum_blocks 4 256 rfl]
  refine Finset.sum_congr rfl fun n _ => ?_
  rw [sum_blocks 4 64 rfl]
  refine Finset.sum_congr rfl fun t _ => Finset.sum_congr rfl fun e _ => ?_
  have hn := n.isLt; have ht := t.isLt; have he := e.isLt
  have e1 : (⟨4 * k.val + (256 * n.val + (64 * t.val + e.val)) / 256, by omega⟩ : Fin 40) = ⟨4 * k.val + n.val, by omega⟩ := Fin.ext (by dsimp only; omega)
  have e2 : (⟨(256 * n.val + (64 * t.val + e.val)) / 64 % 4, by omega⟩ : Fin 4) = t := Fin.ext (by dsimp only; omega)
  have e3 : (⟨(256 * n.val + (64 * t.val + e.val)) % 64, by omega⟩ : Fin 64) = e := Fin.ext (by dsimp only; omega)
  exact congrArg₂ (fun f x => f x) (congrArg₂ g e1 e2) e3

/-! ## The weights -/

/-- Four times a code, times a scale a quarter of its size. -/
theorem quarter_mul (z : ℤ) (S D : EReal) :
    (((4 * z : ℤ) : ℝ) : EReal) * (S * (D * Ideal.ofBits .f32 0x3E800000#32)) = ((z : ℝ) : EReal) * (D * S) := by
  rw [quarter_eq, show (((4 * z : ℤ) : ℝ) : EReal) = ((z : ℝ) : EReal) * ((4 : ℝ) : EReal) by
    rw [← EReal.coe_mul]; congr 1; push_cast; ring]
  calc ((z : ℝ) : EReal) * ((4 : ℝ) : EReal) * (S * (D * ((4⁻¹ : ℝ) : EReal)))
      = ((z : ℝ) : EReal) * (D * S) * (((4 : ℝ) : EReal) * ((4⁻¹ : ℝ) : EReal)) := by ac_rfl
    _ = ((z : ℝ) : EReal) * (D * S) := by
      rw [← EReal.coe_mul, mul_inv_cancel₀ (by norm_num), EReal.coe_one, mul_one]

variable (m : (ℓ : Loc nD τ sig) → Buf (Elt Ideal) ℓ) (ρ : Dev nD → PrngReg)

/-- The weight the kernel forms at a row of a group and a column is the weight that `Spec` states. -/
theorem weight_eq (c : Dev nD) (t : Fin cfg0.N) (k : Fin 10) (r : Fin 1024) (j : Fin 512) :
    weightAt (iblk m c 1 t) (iblk m c 2 t) (slabWords c (grid0.coords t) (V m c main_v4)) (scales (iblk m c 3 t)) k ⟨j.val / 128, by omega⟩ r ⟨j.val % 128, by omega⟩
      = weight (m ((c : Thread nD τ).loc main_arg1)) (m ((c : Thread nD τ).loc main_arg2)) (m ((c : Thread nD τ).loc main_arg3)) (m ((c : Thread nD τ).loc main_arg4))
          ⟨512 * t.val + j.val, by have := points t; omega⟩ ⟨4 * k.val + r.val / 256, by omega⟩ ⟨r.val / 64 % 4, by omega⟩ ⟨r.val % 64, by omega⟩ := by
  have ht := points t
  have hj : (⟨128 * (j.val / 128) + j.val % 128, by omega⟩ : Fin 512) = j := Fin.ext (by dsimp only; omega)
  have hb : (⟨4 * k.val + r.val / 16 / 16, by omega⟩ : Fin 40) = ⟨4 * k.val + r.val / 256, by omega⟩ := Fin.ext (by dsimp only; omega)
  have hq : (⟨r.val / 16 % 16, by omega⟩ : Fin 16) = ⟨4 * (r.val / 64 % 4) + r.val % 64 / 16, by omega⟩ := Fin.ext (by dsimp only; omega)
  have hp : (⟨r.val % 128, by omega⟩ : Fin 128) = ⟨64 * (r.val / 64 % 4 % 2) + r.val % 64, by omega⟩ := Fin.ext (by dsimp only; omega)
  have hh : (⟨r.val / 128 % 2, by omega⟩ : Fin 2) = ⟨r.val / 64 % 4 / 2, by omega⟩ := Fin.ext (by dsimp only; omega)
  have hbyte := slabWords_byte m c t ⟨1280 * (j.val / 128) + k.val + 10 * (j.val % 128), by omega⟩ ⟨64 * (r.val / 64 % 4 % 2) + r.val % 64, by omega⟩
    ⟨r.val / 256, by omega⟩ j ⟨4 * k.val + r.val / 256, by omega⟩ (by show 40 * j.val + (4 * k.val + r.val / 256) = 4 * (1280 * (j.val / 128) + k.val + 10 * (j.val % 128)) + r.val / 256; omega)
  unfold weightAt codeAt wordAt scaleAt scales weight scale
  refine (quarter_mul _ _ _).trans ?_
  refine congrArg₂ (fun (z : ℤ) (x : EReal) => ((z : ℝ) : EReal) * x) ?_ (congrArg₂ (fun (a : BitVec 16) (b : BitVec 8) => Ideal.ofBits .f16 a * (((b.toInt : ℤ) : ℝ) : EReal)) ?_ ?_)
  · rw [hj, hp, hh]
    exact congrArg₂ (fun a b => code a b _ _) hbyte (block1 m c t _ _ j)
  · refine Eq.trans (congrArg (iblk m c 3 t) (congrArg₂ (fun a b => ix2 a b) hb ?_)) (block3 m c t _ j)
    exact Fin.ext (by show 128 * ((128 * (j.val / 128) + j.val % 128) / 128) + (128 * (j.val / 128) + j.val % 128) % 128 = j.val; omega)
  · rw [hj, ← hq, ← hb]
    exact block2 m c t _ _ j

/-- The result block's element at a row and a column. -/
theorem out_entry (c : Dev nD) (t : Fin cfg0.N) (p : Fin 256) (j : Fin 512) :
    outAt m c t (ix2 p j) = entry (m ((c : Thread nD τ).loc main_arg0)) (m ((c : Thread nD τ).loc main_arg1)) (m ((c : Thread nD τ).loc main_arg2))
      (m ((c : Thread nD τ).loc main_arg3)) (m ((c : Thread nD τ).loc main_arg4)) p ⟨512 * t.val + j.val, by have := points t; omega⟩ := by
  have ht := points t
  unfold entry
  refine Eq.trans ?_ (sum_groups (M := EReal) _)
  refine Eq.trans (b := ∑ k : Fin 10, groupSum (iblk m c 0 t) (iblk m c 1 t) (iblk m c 2 t) (slabWords c (grid0.coords t) (V m c main_v4)) (scales (iblk m c 3 t)) k p j) rfl ?_
  unfold groupSum
  refine Finset.sum_congr rfl fun k _ => Finset.sum_congr rfl fun r _ => congrArg₂ (fun a b : EReal => a * b) ?_ (weight_eq m c t k r j)
  refine (block0 m c t p _).trans (congrArg _ (congrArg (ix3 p 0) (Fin.ext ?_)))
  show 1024 * k.val + r.val = 256 * (4 * k.val + r.val / 256) + 64 * (r.val / 64 % 4) + r.val % 64
  omega

/-! ## The array -/

/-- Where a block's element sits in the result array. -/
theorem out_place (t : Fin cfg0.N) (p : Fin 256) (j : Fin 512) :
    ((cfg0.win 4).blk t).view.emb (ix2 p j) = (ix2 p ⟨512 * t.val + j.val, by have := points t; omega⟩ : S256x7168.Idx) := by
  obtain ⟨e0, e1⟩ := index4 t
  funext a
  exact Fin.ext (match a with
    | ⟨0, _⟩ => by show win0_4.index t (0 : Fin 2) * 256 + 1 * p.val = p.val; omega
    | ⟨1, _⟩ => by show win0_4.index t (1 : Fin 2) * 512 + 1 * j.val = 512 * t.val + j.val; omega)

/-- The region's result array, of a device. -/
def whole (c : Dev nD) : S256x7168.Idx → EReal := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a point writes back is its block of that array. -/
theorem flushed_eq (c : Dev nD) (t : Fin cfg0.N) :
    (vdats m 0 c).flushed 4 t = ((cfg0.win 4).blk t).view.read (Elt Ideal) (whole m c) := by
  refine Eq.trans (b := outAt m c t) rfl (funext fun i => ?_)
  obtain ⟨p, j, rfl⟩ : ∃ (p : Fin 256) (j : Fin 512), i = ix2 p j := ⟨i 0, i 1, eq_ix2 i⟩
  refine (out_entry m c t p j).trans ?_
  show _ = whole m c (((cfg0.win 4).blk t).view.emb (ix2 p j))
  rw [out_place]
  rfl

/-- Every element of the result array is in some point's block. -/
theorem covered (i : S256x7168.Idx) : ∃ t : Fin cfg0.N, (cfg0.win 4).flush t = true ∧ i ∈ ((cfg0.win 4).blk t).view.set := by
  obtain ⟨p, o, rfl⟩ : ∃ (p : Fin 256) (o : Fin 7168), i = ix2 p o := ⟨i 0, i 1, eq_ix2 i⟩
  have hN : cfg0.N = 14 := by decide
  refine ⟨⟨o.val / 512, by omega⟩, flush0_4 _, ?_⟩
  have h := ((cfg0.win 4).blk (⟨o.val / 512, by omega⟩ : Fin cfg0.N)).view.emb_mem_set (ix2 p (⟨o.val % 512, by omega⟩ : Fin 512))
  rw [out_place] at h
  rwa [show (⟨512 * (o.val / 512) + o.val % 512, by omega⟩ : Fin 7168) = o from Fin.ext (by dsimp only; omega)] at h

/-- The region's result array after the run. -/
theorem final_eq (c : Dev nD) : (vdats m 0 c).arrAt 4 cfg0.N = whole m c :=
  (vdats m 0 c).arrAt_eq_of_cover 4 (whole m c) (fun t _ => flushed_eq m c t) covered

/-- The result: the array, reshaped. -/
theorem reshaped (c : Dev nD) : shapeCast S256x1x7168 (whole m c) shapeCasts_S256x7168_S256x1x7168
    = result (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  obtain ⟨p, u, o, rfl⟩ : ∃ (p : Fin 256) (u : Fin 1) (o : Fin 7168), i = ix3 p u o := ⟨i 0, i 1, i 2, eq_ix3 i⟩
  refine (shapeCast_apply _ _ _ (ix2 p o) ?_).trans rfl
  rw [Shape.rowMajor_val_three, Shape.rowMajor_val_two]
  show p.val * 7168 + o.val = (p.val * 1 + u.val) * 7168 + o.val
  have := u.isLt
  omega

/-- Every execution of the kernel's program terminates, with its result at `Spec`'s sums and its arguments unchanged. -/
theorem run : θ_run (defs (F := Ideal)) (onTc (τ := τ) (main (F := Ideal))) ⟨m, fun _ => 0, ρ⟩ fun r => ∀ c : Dev nD,
      r.2.mem ((c : Thread nD τ).loc main_v6)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have h := (θ_run (defs (F := Ideal)) _ _).mono (fun r h => h.1) (vrun_main m ρ)
  run_from h
  · exact (tail_result m c).trans ((congrArg (fun A : S256x7168.Idx → EReal => shapeCast S256x1x7168 A shapeCasts_S256x7168_S256x1x7168) (final_eq m c)).trans (reshaped m c))
  · exact (tail_other m c main_arg0 (by decide) (by decide)).trans (V_main_arg0 m c)
  · exact (tail_other m c main_arg1 (by decide) (by decide)).trans (V_main_arg1 m c)
  · exact (tail_other m c main_arg2 (by decide) (by decide)).trans (V_main_arg2 m c)
  · exact (tail_other m c main_arg3 (by decide) (by decide)).trans (V_main_arg3 m c)
  · exact (tail_other m c main_arg4 (by decide) (by decide)).trans (V_main_arg4 m c)

end Cert.KernelIdeal.Value
-- ==== Proof.RefTerm.lean ====
/-
The reference's arithmetic, read one element at a time over the extended reals: the codes out of the packed bytes, the
sub-blocks' scales, the weights of one field, and what one field adds to the result.
-/
module

public import proofs.«01_k».proof.Proof.Gen.ReferenceIdeal
public import Idealize.ShloMosaic.Lib.Pointwise
public import proofs.«01_k».proof.Proof.Spec

@[expose] public section

set_option maxRecDepth 16384

noncomputable section

namespace Cert.ReferenceIdeal.Value

open Cert.ReferenceIdeal Cert.ReferenceIdeal.Gen
open Cert.KernelIdeal.Value (code nibble_lt crumb_lt)
open Idealize.ShloMosaic Idealize.ShloMosaic.TcCoe Idealize.SL.Sem

/-! ## The reference's expressions, by field -/

/-- One nibble of each packed byte: the byte shifted right by `s`, its low four bits. -/
def nibbles (ql : IVec S7168x40x128 8) (s : BitVec 32) : IVec S7168x40x128 32 :=
  andi (Host.shrsi (extui 32 ql natLt_8_32) (broadcastInDim S7168x40x128 ![] bcast_S_S7168x40x128 (constantI S_ 32 s)))
    (broadcastInDim S7168x40x128 ![] bcast_S_S7168x40x128 (constantI S_ 32 15#32))

/-- One pair of bits of each byte of high bits, moved to bits 4 and 5. -/
def crumbs (qh : IVec S7168x40x64 8) (s : BitVec 32) : IVec S7168x40x64 32 :=
  Host.shli (andi (Host.shrsi (extui 32 qh natLt_8_32) (broadcastInDim S7168x40x64 ![] bcast_S_S7168x40x64 (constantI S_ 32 s)))
    (broadcastInDim S7168x40x64 ![] bcast_S_S7168x40x64 (constantI S_ 32 3#32)))
    (broadcastInDim S7168x40x64 ![] bcast_S_S7168x40x64 (constantI S_ 32 4#32))

/-- The codes of a field, less their offset. -/
def codes (nb : IVec S7168x40x128 32) (cr : IVec S7168x40x64 32) (off : Fin 3 → ℕ) (h : S7168x40x128.Slices off S7168x40x64) : FVec Ideal S7168x40x64 .bf16 :=
  subf (sitofp .bf16 (ori (extractStridedSlice S7168x40x64 off nb h) cr)) (broadcastInDim S7168x40x64 ![] bcast_S_S7168x40x64 (constant S_ .bf16 0x4200#16))

/-- The scales of all sub-blocks, by field. -/
def scales (d : FVec Ideal S7168x40 .f32) (sc : IVec S7168x40x16 8) : FVec Ideal S7168x40x4x4x1 .bf16 :=
  shapeCast S7168x40x4x4x1 (truncf .bf16 (mulf
    (broadcastInDim S7168x40x16 ![0, 1, 2] bcast_S7168x40x1_S7168x40x16_0_1_2 (broadcastInDim S7168x40x1 ![0, 1] bcast_S7168x40_S7168x40x1_0_1 d))
    (sitofp .f32 (extsi 32 sc natLt_8_32))) bitsLt_bf16_f32) shapeCasts_S7168x40x16_S7168x40x4x4x1

/-- The weights of a field. -/
def weights (cd : FVec Ideal S7168x40x64 .bf16) (s : FVec Ideal S7168x40x4x4x1 .bf16) (off : Fin 5 → ℕ) (h : S7168x40x4x4x1.Slices off S7168x40x1x4x1) :
    FVec Ideal S7168x40x64 .bf16 :=
  shapeCast S7168x40x64 (mulf (shapeCast S7168x40x4x16 cd shapeCasts_S7168x40x64_S7168x40x4x16)
    (broadcastInDim S7168x40x4x16 ![0, 1, 2, 3] bcast_S7168x40x4x1_S7168x40x4x16_0_1_2_3
      (shapeCast S7168x40x4x1 (extractStridedSlice S7168x40x1x4x1 off s h) shapeCasts_S7168x40x1x4x1_S7168x40x4x1))) shapeCasts_S7168x40x4x16_S7168x40x64

/-- One field of the activations in their blocked form. -/
def field (x : FVec Ideal S256x1x40x4x64 .bf16) (off : Fin 5 → ℕ) (h : S256x1x40x4x64.Slices off S256x1x40x1x64) : FVec Ideal S256x1x40x64 .bf16 :=
  shapeCast S256x1x40x64 (extractStridedSlice S256x1x40x1x64 off x h) shapeCasts_S256x1x40x1x64_S256x1x40x64

/-- The activations of a field. -/
def acts (x : FVec Ideal S256x1x10240 .bf16) (off : Fin 5 → ℕ) (h : S256x1x40x4x64.Slices off S256x1x40x1x64) : FVec Ideal S256x1x40x64 .bf16 :=
  field (shapeCast S256x1x40x4x64 x shapeCasts_S256x1x10240_S256x1x40x4x64) off h

/-- What a field adds. -/
def part (a : FVec Ideal S256x1x40x64 .bf16) (w : FVec Ideal S7168x40x64 .bf16) : FVec Ideal S256x1x7168 .f32 :=
  Host.dotGeneral dot_S256x1x40x64_S7168x40x64_S256x1x7168_32_21_01_0_n_n none a w

/-! ## The codes -/

theorem nibble_word : ∀ (b : BitVec 8) (h : Fin 2),
    IntOp.andi (IntOp.shrsi .host (b.setWidth 32) (BitVec.ofNat 32 (4 * h.val))) 15#32 = BitVec.ofNat 32 ((b >>> (4 * h.val)) &&& 15#8).toNat := by
  decide +kernel

theorem crumb_word : ∀ (b : BitVec 8) (t : Fin 4),
    IntOp.shli .host (IntOp.andi (IntOp.shrsi .host (b.setWidth 32) (BitVec.ofNat 32 (2 * t.val))) 3#32) 4#32 = BitVec.ofNat 32 (16 * ((b >>> (2 * t.val)) &&& 3#8).toNat) := by
  decide +kernel

theorem join_words : ∀ (x : Fin 16) (y : Fin 4), (IntOp.ori (BitVec.ofNat 32 x.val) (BitVec.ofNat 32 (16 * y.val))).toInt = (x.val : ℤ) + 16 * (y.val : ℤ) := by
  decide +kernel

/-- The offset's bits denote 32. -/
theorem offset_eq : Ideal.ofBits .bf16 0x4200#16 = ((32 : ℝ) : EReal) := by
  simp [Ideal.ofBits, Ideal.ieee]
  rw [← EReal.coe_mul]
  norm_num

/-- A code of a field, as `Spec` states it. -/
theorem codes_apply (ql : IVec S7168x40x128 8) (qh : IVec S7168x40x64 8) (half : Fin 2) (t : Fin 4) (n : ℕ) (hn : n + 64 ≤ 128)
    (h : S7168x40x128.Slices ![0, 0, n] S7168x40x64) (o : Fin 7168) (b : Fin 40) (e : Fin 64) :
    codes (nibbles ql (BitVec.ofNat 32 (4 * half.val))) (crumbs qh (BitVec.ofNat 32 (2 * t.val))) ![0, 0, n] h (ix3 o b e)
      = ((code (ql (ix3 o b ⟨n + e.val, by omega⟩)) (qh (ix3 o b e)) half t : ℝ) : EReal) := by
  have key : ∀ x y : BitVec 8, (((IntOp.ori (IntOp.andi (IntOp.shrsi .host (x.setWidth 32) (BitVec.ofNat 32 (4 * half.val))) 15#32)
      (IntOp.shli .host (IntOp.andi (IntOp.shrsi .host (y.setWidth 32) (BitVec.ofNat 32 (2 * t.val))) 3#32) 4#32)).toInt : ℝ) : EReal) - Ideal.ofBits .bf16 0x4200#16
      = ((code x y half t : ℝ) : EReal) := by
    intro x y
    rw [nibble_word, crumb_word, join_words ⟨_, nibble_lt x _⟩ ⟨_, crumb_lt y _⟩, offset_eq, ← EReal.coe_sub]
    congr 1
    unfold code
    push_cast
    rfl
  refine Eq.trans ?_ (key _ _)
  have hs : extractStridedSlice S7168x40x64 ![0, 0, n] (nibbles ql (BitVec.ofNat 32 (4 * half.val))) h (ix3 o b e)
      = nibbles ql (BitVec.ofNat 32 (4 * half.val)) (ix3 o b ⟨n + e.val, by omega⟩) := by
    refine congrArg (nibbles ql (BitVec.ofNat 32 (4 * half.val))) (funext fun a => Fin.ext ?_)
    match a with
    | ⟨0, _⟩ => show 0 + o.val = o.val; omega
    | ⟨1, _⟩ => show 0 + b.val = b.val; omega
    | ⟨2, _⟩ => rfl
  show (((IntOp.ori (extractStridedSlice S7168x40x64 ![0, 0, n] (nibbles ql (BitVec.ofNat 32 (4 * half.val))) h (ix3 o b e)) _).toInt : ℝ) : EReal) - _ = _
  rw [hs]
  rfl

/-! ## The weights -/

/-- A scale, as `Spec` states it. -/
theorem scales_apply (d : FVec Ideal S7168x40 .f32) (sc : IVec S7168x40x16 8) (o : Fin 7168) (b : Fin 40) (t q : Fin 4) :
    scales d sc (ix5 o b t q 0) = d (ix2 o b) * (((sc (ix3 o b ⟨4 * t.val + q.val, by omega⟩)).toInt : ℝ) : EReal) := by
  unfold scales
  refine (shapeCast_apply _ _ _ (ix3 o b (⟨4 * t.val + q.val, by omega⟩ : Fin 16)) ?_).trans ?_
  · rw [Shape.rowMajor_val_three, Shape.rowMajor_val_five]
    show (o.val * 40 + b.val) * 16 + (4 * t.val + q.val) = (((o.val * 40 + b.val) * 4 + t.val) * 4 + q.val) * 1 + 0
    omega
  pointwise
  show d (ix2 o b) * ((((sc (ix3 o b _)).signExtend 32).toInt : ℝ) : EReal) = _
  rw [BitVec.toInt_signExtend_of_le (by decide)]

/-- A weight of a field is its code times its sub-block's scale. -/
theorem weights_apply (cd : FVec Ideal S7168x40x64 .bf16) (s : FVec Ideal S7168x40x4x4x1 .bf16) (t : Fin 4) (h : S7168x40x4x4x1.Slices ![0, 0, t.val, 0, 0] S7168x40x1x4x1)
    (o : Fin 7168) (b : Fin 40) (e : Fin 64) :
    weights cd s ![0, 0, t.val, 0, 0] h (ix3 o b e) = cd (ix3 o b e) * s (ix5 o b t ⟨e.val / 16, by omega⟩ 0) := by
  unfold weights
  refine (shapeCast_apply _ _ _ (ix4 o b (⟨e.val / 16, by omega⟩ : Fin 4) (⟨e.val % 16, by omega⟩ : Fin 16)) ?_).trans ?_
  · rw [Shape.rowMajor_val_three, Shape.rowMajor_val_four]
    show ((o.val * 40 + b.val) * 4 + e.val / 16) * 16 + e.val % 16 = (o.val * 40 + b.val) * 64 + e.val
    omega
  refine congrArg₂ (fun a b : EReal => a * b) (shapeCast_apply _ _ _ (ix3 o b e) ?_)
    ((shapeCast_apply _ _ _ (ix5 o b (0 : Fin 1) (⟨e.val / 16, by omega⟩ : Fin 4) (0 : Fin 1)) ?_).trans (congrArg s (funext fun a => Fin.ext ?_)))
  · rw [Shape.rowMajor_val_three, Shape.rowMajor_val_four]
    show (o.val * 40 + b.val) * 64 + e.val = ((o.val * 40 + b.val) * 4 + e.val / 16) * 16 + e.val % 16
    omega
  · rw [Shape.rowMajor_val_five, Shape.rowMajor_val_four]
    show (((o.val * 40 + b.val) * 1 + 0) * 4 + e.val / 16) * 1 + 0 = ((o.val * 40 + b.val) * 4 + e.val / 16) * 1 + 0
    omega
  · match a with
    | ⟨0, _⟩ => show 0 + o.val = o.val; omega
    | ⟨1, _⟩ => show 0 + b.val = b.val; omega
    | ⟨2, _⟩ => rfl
    | ⟨3, _⟩ => show 0 + e.val / 16 = e.val / 16; omega
    | ⟨4, _⟩ => rfl

/-- An activation of a field. -/
theorem acts_apply (x : FVec Ideal S256x1x10240 .bf16) (t : Fin 4) (h : S256x1x40x4x64.Slices ![0, 0, 0, t.val, 0] S256x1x40x1x64) (p : Fin 256) (b : Fin 40) (e : Fin 64) :
    acts x ![0, 0, 0, t.val, 0] h (ix4 p 0 b e) = x (ix3 p 0 ⟨256 * b.val + 64 * t.val + e.val, by omega⟩) := by
  unfold acts field
  refine (shapeCast_apply _ _ _ (ix5 p (0 : Fin 1) b (0 : Fin 1) e) ?_).trans (Eq.trans (b := shapeCast S256x1x40x4x64 x shapeCasts_S256x1x10240_S256x1x40x4x64 (ix5 p (0 : Fin 1) b t e))
    (congrArg (shapeCast S256x1x40x4x64 x shapeCasts_S256x1x10240_S256x1x40x4x64) (funext fun a => Fin.ext ?_)) (shapeCast_apply _ _ _ _ ?_))
  · rw [Shape.rowMajor_val_five, Shape.rowMajor_val_four]
    show (((p.val * 1 + 0) * 40 + b.val) * 1 + 0) * 64 + e.val = ((p.val * 1 + 0) * 40 + b.val) * 64 + e.val
    omega
  · match a with
    | ⟨0, _⟩ => show 0 + p.val = p.val; omega
    | ⟨1, _⟩ => rfl
    | ⟨2, _⟩ => show 0 + b.val = b.val; omega
    | ⟨3, _⟩ => rfl
    | ⟨4, _⟩ => show 0 + e.val = e.val; omega
  · rw [Shape.rowMajor_val_three, Shape.rowMajor_val_five]
    show (p.val * 1 + 0) * 10240 + (256 * b.val + 64 * t.val + e.val) = (((p.val * 1 + 0) * 40 + b.val) * 4 + t.val) * 64 + e.val
    omega

/-- What a field adds at an element: a sum over super-blocks and elements. -/
theorem part_apply (a : FVec Ideal S256x1x40x64 .bf16) (w : FVec Ideal S7168x40x64 .bf16) (p : Fin 256) (o : Fin 7168) :
    part a w (ix3 p 0 o) = ∑ b : Fin 40, ∑ e : Fin 64, a (ix4 p 0 b e) * w (ix3 o b e) := by
  unfold part
  pointwise
  try exact Finset.sum_comm

end Cert.ReferenceIdeal.Value
-- ==== Proof.RefValue.lean ====
/-
The reference's value: every execution of the reference's program terminates with its result at `Spec`'s sums. The
scales come from a one-point region that decodes their bit patterns; the rest is the program's lines after it.
-/
module

public import proofs.«01_k».proof.Proof.Gen.ReferenceIdeal.Frame
public import proofs.«01_k».proof.Proof.RefTerm
public import Idealize.ShloMosaic.Lib.Pointwise
public import Idealize.ShloMosaic.Lib.Claim
public import Idealize.ShloMosaic.Lib.StableHlo.RunRead

@[expose] public section

set_option maxRecDepth 100000

noncomputable section

namespace Cert.ReferenceIdeal.Value

open Cert.ReferenceIdeal Cert.ReferenceIdeal.Gen
open Cert.Spec
open Cert.KernelIdeal.Value (code)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The sum of the four fields -/

/-- What the fields add, all together, from the argument arrays and the decoded scales. -/
def total (x : FVec Ideal S256x1x40x4x64 .bf16) (ql : IVec S7168x40x128 8) (qh : IVec S7168x40x64 8) (sc : IVec S7168x40x16 8) (d : FVec Ideal S7168x40 .f32) :
    FVec Ideal S256x1x7168 .bf16 :=
  truncf .bf16 (addf (addf (addf
    (part (field x ![0, 0, 0, 0, 0] slices_S256x1x40x4x64_S256x1x40x1x64_0_0_0_0_0)
      (weights (codes (nibbles ql 0#32) (crumbs qh 0#32) ![0, 0, 0] slices_S7168x40x128_S7168x40x64_0_0_0) (scales d sc) ![0, 0, 0, 0, 0] slices_S7168x40x4x4x1_S7168x40x1x4x1_0_0_0_0_0))
    (part (field x ![0, 0, 0, 1, 0] slices_S256x1x40x4x64_S256x1x40x1x64_0_0_0_1_0)
      (weights (codes (nibbles ql 0#32) (crumbs qh 2#32) ![0, 0, 64] slices_S7168x40x128_S7168x40x64_0_0_64) (scales d sc) ![0, 0, 1, 0, 0] slices_S7168x40x4x4x1_S7168x40x1x4x1_0_0_1_0_0)))
    (part (field x ![0, 0, 0, 2, 0] slices_S256x1x40x4x64_S256x1x40x1x64_0_0_0_2_0)
      (weights (codes (nibbles ql 4#32) (crumbs qh 4#32) ![0, 0, 0] slices_S7168x40x128_S7168x40x64_0_0_0) (scales d sc) ![0, 0, 2, 0, 0] slices_S7168x40x4x4x1_S7168x40x1x4x1_0_0_2_0_0)))
    (part (field x ![0, 0, 0, 3, 0] slices_S256x1x40x4x64_S256x1x40x1x64_0_0_0_3_0)
      (weights (codes (nibbles ql 4#32) (crumbs qh 6#32) ![0, 0, 64] slices_S7168x40x128_S7168x40x64_0_0_64) (scales d sc) ![0, 0, 3, 0, 0] slices_S7168x40x4x4x1_S7168x40x1x4x1_0_0_3_0_0)))
    bitsLt_bf16_f32

/-- The decoded scales. -/
def halves (d : IVec S7168x40 16) : FVec Ideal S7168x40 .f32 := fun i => Ideal.ofBits .f16 (d i)

/-- A field's contribution at an element. -/
theorem part_eq (x : FVec Ideal S256x1x10240 .bf16) (ql : IVec S7168x40x128 8) (qh : IVec S7168x40x64 8) (sc : IVec S7168x40x16 8) (d : IVec S7168x40 16)
    (t : Fin 4) (ha : S256x1x40x4x64.Slices ![0, 0, 0, t.val, 0] S256x1x40x1x64) (hc : S7168x40x128.Slices ![0, 0, 64 * (t.val % 2)] S7168x40x64)
    (hs : S7168x40x4x4x1.Slices ![0, 0, t.val, 0, 0] S7168x40x1x4x1) (p : Fin 256) (o : Fin 7168) :
    part (acts x ![0, 0, 0, t.val, 0] ha)
        (weights (codes (nibbles ql (BitVec.ofNat 32 (4 * (t.val / 2)))) (crumbs qh (BitVec.ofNat 32 (2 * t.val))) ![0, 0, 64 * (t.val % 2)] hc) (scales (halves d) sc)
          ![0, 0, t.val, 0, 0] hs) (ix3 p 0 o)
      = ∑ b : Fin 40, ∑ e : Fin 64, x (ix3 p 0 ⟨256 * b.val + 64 * t.val + e.val, by omega⟩) * weight ql qh sc d o b t e := by
  rw [part_apply]
  refine Finset.sum_congr rfl fun b _ => Finset.sum_congr rfl fun e _ => congrArg₂ (fun a b : EReal => a * b) (acts_apply x t ha p b e) ?_
  rw [weights_apply]
  exact congrArg₂ (fun a b : EReal => a * b)
    (codes_apply ql qh ⟨t.val / 2, by omega⟩ t (64 * (t.val % 2)) (by omega) hc o b e) (scales_apply (halves d) sc o b t ⟨e.val / 16, by omega⟩)

/-- The fields' sum is `Spec`'s result. -/
theorem total_eq (x : FVec Ideal S256x1x10240 .bf16) (ql : IVec S7168x40x128 8) (qh : IVec S7168x40x64 8) (sc : IVec S7168x40x16 8) (d : IVec S7168x40 16) :
    total (shapeCast S256x1x40x4x64 x shapeCasts_S256x1x10240_S256x1x40x4x64) ql qh sc (halves d) = result x ql qh sc d := by
  funext i
  obtain ⟨p, u, o, rfl⟩ : ∃ (p : Fin 256) (u : Fin 1) (o : Fin 7168), i = ix3 p u o := ⟨i 0, i 1, i 2, eq_ix3 i⟩
  obtain rfl : u = 0 := Fin.ext (by omega)
  show _ = entry x ql qh sc d p o
  unfold entry
  rw [Finset.sum_comm, Fin.sum_univ_four]
  exact congrArg₂ (fun a b : EReal => a + b) (congrArg₂ (fun a b : EReal => a + b) (congrArg₂ (fun a b : EReal => a + b)
    (part_eq x ql qh sc d 0 _ _ _ p o) (part_eq x ql qh sc d 1 _ _ _ p o)) (part_eq x ql qh sc d 2 _ _ _ p o)) (part_eq x ql qh sc d 3 _ _ _ p o)

/-! ## The lines after the region -/

/-- What the lines after the region leave in the result, whatever they start from. -/
theorem tail_eq (W : Valuation τ sig (Elt Ideal)) : StableHlo.after hostOps1 W (Proc.devRef .tc main_v102)
    = total (W (Proc.devRef .tc main_v0)) (W (Proc.devRef .tc main_arg1)) (W (Proc.devRef .tc main_arg2)) (W (Proc.devRef .tc main_arg3)) (W (Proc.devRef .tc main_v1)) := by
  delta hostOps1
  after_reads_simp
  rfl

/-- The region finds the activations in their blocked form. -/
theorem V_main_v0 (c : Dev nD) : V m c main_v0 = shapeCast S256x1x40x4x64 (m ((c : Thread nD τ).loc main_arg0)) shapeCasts_S256x1x10240_S256x1x40x4x64 := by
  show StableHlo.after (List.flatten [hostOps0]) _ _ = _
  simp only [List.flatten_cons, List.flatten_nil, List.append_nil]
  delta hostOps0
  after_reads_simp
  rfl

/-! ## The region -/

/-- Where a block's element sits in its array: the blocks are whole arrays. -/
theorem place0 (t : Fin cfg0.N) (i : S7168x40.Idx) : ((cfg0.win 0).blk t).view.emb i = i := by
  have e : win0_0.index t (0 : Fin 2) = 0 ∧ win0_0.index t (1 : Fin 2) = 0 := (by decide +kernel : ∀ t : Fin grid0.N, win0_0.index t (0 : Fin 2) = 0 ∧ win0_0.index t (1 : Fin 2) = 0) t
  obtain ⟨e0, e1⟩ := e
  funext a
  exact Fin.ext (match a with
    | ⟨0, _⟩ => by show win0_0.index t (0 : Fin 2) * 7168 + 1 * (i 0).val = (i 0).val; omega
    | ⟨1, _⟩ => by show win0_0.index t (1 : Fin 2) * 40 + 1 * (i 1).val = (i 1).val; omega)

theorem place1 (t : Fin cfg0.N) (i : S7168x40.Idx) : ((cfg0.win 1).blk t).view.emb i = i := by
  have e : win0_1.index t (0 : Fin 2) = 0 ∧ win0_1.index t (1 : Fin 2) = 0 := (by decide +kernel : ∀ t : Fin grid0.N, win0_1.index t (0 : Fin 2) = 0 ∧ win0_1.index t (1 : Fin 2) = 0) t
  obtain ⟨e0, e1⟩ := e
  funext a
  exact Fin.ext (match a with
    | ⟨0, _⟩ => by show win0_1.index t (0 : Fin 2) * 7168 + 1 * (i 0).val = (i 0).val; omega
    | ⟨1, _⟩ => by show win0_1.index t (1 : Fin 2) * 40 + 1 * (i 1).val = (i 1).val; omega)

/-- The body's one rectangle is the whole buffer. -/
theorem whole_rect (i : S7168x40.Idx) : r0_0.emb i = i := by
  funext a
  exact Fin.ext (match a with
    | ⟨0, _⟩ => by show 0 + 1 * (i 0).val = (i 0).val; omega
    | ⟨1, _⟩ => by show 0 + 1 * (i 1).val = (i 1).val; omega)

/-- What the body leaves: the decoded patterns. -/
theorem out_eq (x : IVec S7168x40 16) : out0_1 (F := Ideal) x = halves x := by
  funext i
  unfold out0_1
  have h := View.canon_cons_emb (Val := Elt Ideal) (e := .f32) r0_0 (k0_pay1 (F := Ideal) (View.ld x r0_0)) [] i
  rw [whole_rect] at h
  refine h.trans ?_
  show Ideal.ofBits .f16 (x (r0_0.emb i)) = Ideal.ofBits .f16 (x i)
  rw [whole_rect]

/-- What the point writes back is the whole of the decoded scales. -/
theorem flushed_eq (c : Dev nD) (t : Fin cfg0.N) :
    (dats m 0 c).flushed 1 t = ((cfg0.win 1).blk t).view.read (Elt Ideal) (halves (m ((c : Thread nD τ).loc main_arg4))) := by
  refine Eq.trans (b := out0_1 (iblk m c 0 t)) (after0_1 m c t) ((out_eq _).trans (funext fun i => ?_))
  show Ideal.ofBits .f16 (V m c main_arg4 (((cfg0.win 0).blk t).view.emb i)) = halves (m ((c : Thread nD τ).loc main_arg4)) (((cfg0.win 1).blk t).view.emb i)
  rw [place0, place1, V_main_arg4]
  rfl

theorem covered (i : S7168x40.Idx) : ∃ t : Fin cfg0.N, (cfg0.win 1).flush t = true ∧ i ∈ ((cfg0.win 1).blk t).view.set := by
  have hN : cfg0.N = 1 := by decide
  refine ⟨⟨0, by omega⟩, flush0_1 _, ?_⟩
  have h := ((cfg0.win 1).blk (⟨0, by omega⟩ : Fin cfg0.N)).view.emb_mem_set i
  rwa [place1] at h

/-- The region's result array after the run. -/
theorem final_eq (c : Dev nD) : (dats m 0 c).arrAt 1 cfg0.N = halves (m ((c : Thread nD τ).loc main_arg4)) :=
  (dats m 0 c).arrAt_eq_of_cover 1 (halves (m ((c : Thread nD τ).loc main_arg4))) (fun t _ => flushed_eq m c t) covered

/-! ## The run -/

/-- The result after the last line. -/
theorem result_eq (c : Dev nD) : Pipeline.afterTail₀ cfgs (dats m) 0 (V0 m) [hostOps1] c main_v102
    = result (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  rw [List.flatten_cons, List.flatten_nil, List.append_nil]
  refine (tail_eq _).trans ?_
  rw [Pipeline.withArrays_of_ne _ c (V0 m c) _ main_v0 (by exact (by decide : ∀ w, Pipeline.arrRef spec0 w ≠ main_v0)),
    Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3))]
  have h1 := (Pipeline.withArrays_arr spec0 launch0.win.arr_inj c (V0 m c) (fun w => (dats m 0 c).arrAt w cfg0.N) 1).trans (final_eq m c)
  refine Eq.trans ?_ (total_eq _ _ _ _ _)
  have e0 := V_main_v0 m c
  have e1 := V_main_arg1 m c
  have e2 := V_main_arg2 m c
  have e3 := V_main_arg3 m c
  dsimp only [V] at e0 e1 e2 e3
  rw [e0, e1, e2, e3]
  exact congrArg _ h1

/-- Every execution of the reference's program terminates, with its result at `Spec`'s sums and its arguments unchanged. -/
theorem run : θ_run (defs (F := Ideal)) (onTc (τ := τ) (main (F := Ideal))) ⟨m, fun _ => 0, ρ⟩ fun r => ∀ c : Dev nD,
      r.2.mem ((c : Thread nD τ).loc main_v102)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun _ h c => ⟨((h c).2 main_v102 (Pipeline.mem_restRefs_of main_v102 (by decide) (by decide))).trans (result_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 0).trans (((dats m 0 c).arrAt_in 0 rfl _).trans ((A_eq m c 0).trans (V_main_arg4 m c)))⟩) (run_main m ρ)

end Cert.ReferenceIdeal.Value
-- ==== Proof.lean ====
module

public import proofs.«01_k».proof.Defs
public import proofs.«01_k».proof.Proof.KernelFrame
public import proofs.«01_k».proof.Proof.KernelIdealFrame
public import proofs.«01_k».proof.Proof.KernelValue
public import proofs.«01_k».proof.Proof.RefValue
public import Idealize.ShloMosaic.Lib.Bf16PairInverse
public import Idealize.ShloMosaic.Adequacy
public import Idealize.ShloMosaic.Init

@[expose] public section

noncomputable section

namespace Cert.Proof

open Idealize.ShloMosaic Idealize.SL.Sem

/-- Every rewrite of the idealization is an instance of its rule. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- `Kernel` runs and leaves its arguments as they were. -/
theorem frame_kernel : @Cert.quiescent_Kernel Cert.Kernel.Gen.facts :=
  fun m ρ _ => Cert.Kernel.Hand.frame (F := Bits) m ρ

/-- `KernelIdeal` runs and leaves its arguments as they were. -/
theorem frame_ideal : @Cert.quiescent_KernelIdeal Cert.KernelIdeal.Gen.facts :=
  fun m ρ _ => Cert.KernelIdeal.Hand.frame (F := Ideal) m ρ

/-- `ReferenceIdeal` runs and leaves its arguments as they were. -/
theorem frame_reference : @Cert.quiescent_ReferenceIdeal Cert.ReferenceIdeal.Gen.facts :=
  fun m ρ _ => Cert.ReferenceIdeal.Gen.frame m ρ

/-- At the same arguments the two programs end with the same result: the sums `Spec` states. -/
theorem same_result : @Cert.algebraic_KernelIdeal_ReferenceIdeal Cert.KernelIdeal.Gen.facts Cert.ReferenceIdeal.Gen.facts := by
  intro m g m' g' _ hargs
  refine ⟨_, Cert.KernelIdeal.Value.run m g, (θ_run _ _ _).mono (fun r h c => ?_) (Cert.ReferenceIdeal.Value.run m' g')⟩
  obtain ⟨a0, a1, a2, a3, a4⟩ := hargs c
  obtain ⟨hr, hrest⟩ := h c
  rw [a0, a1, a2, a3, a4] at hr
  exact ⟨hr, hrest⟩

/-- The claims. -/
theorem claim : Cert.Claim := ⟨Cert.Kernel.Gen.facts, Cert.KernelIdeal.Gen.facts, Cert.ReferenceIdeal.Gen.facts,
  frame_kernel, frame_ideal, frame_reference, preserves, same_result⟩

end Cert.Proof

end
